-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S1024 : Shape := ⟨1, ![1024]⟩
abbrev S1024x32 : Shape := ⟨2, ![1024, 32]⟩
abbrev S100000 : Shape := ⟨1, ![100000]⟩
abbrev S128 : Shape := ⟨1, ![128]⟩
abbrev S128x1 : Shape := ⟨2, ![128, 1]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1x128 : Shape := ⟨2, ![1, 128]⟩
abbrev S32768 : Shape := ⟨1, ![32768]⟩
abbrev S32768x1 : Shape := ⟨2, ![32768, 1]⟩
abbrev S32768x128 : Shape := ⟨2, ![32768, 128]⟩
abbrev S1024x32x128 : Shape := ⟨3, ![1024, 32, 128]⟩
abbrev S1x1x128 : Shape := ⟨3, ![1, 1, 128]⟩
abbrev S1024x32x1 : Shape := ⟨3, ![1024, 32, 1]⟩
abbrev S1024x16 : Shape := ⟨2, ![1024, 16]⟩
abbrev S256x32 : Shape := ⟨2, ![256, 32]⟩
abbrev S256x1 : Shape := ⟨2, ![256, 1]⟩
abbrev S256x16 : Shape := ⟨2, ![256, 16]⟩
abbrev S1x32 : Shape := ⟨2, ![1, 32]⟩
abbrev S1x16 : Shape := ⟨2, ![1, 16]⟩
abbrev S16384 : Shape := ⟨1, ![16384]⟩
abbrev S16384x1 : Shape := ⟨2, ![16384, 1]⟩

abbrev nBuf : Space → Nat
  | .hbm => 116
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1024, .i32⟩
  | .hbm, ⟨2, _⟩ => ⟨S1024x32, .i32⟩
  | .hbm, ⟨3, _⟩ => ⟨S100000, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1x1, .i32⟩
  | .hbm, ⟨21, _⟩ => ⟨S1024x1, .i32⟩
  | .hbm, ⟨22, _⟩ => ⟨S1024x1, .i1⟩
  | .hbm, ⟨23, _⟩ => ⟨S1024x1, .i1⟩
  | .hbm, ⟨24, _⟩ => ⟨S_, .i1⟩
  | .hbm, ⟨25, _⟩ => ⟨S1024, .i1⟩
  | .hbm, ⟨26, _⟩ => ⟨S1024x128, .f32⟩
  | .hbm, ⟨27, _⟩ => ⟨S1024x128, .i1⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S128, .f32⟩
  | .hbm, ⟨32, _⟩ => ⟨S1x128, .f32⟩
  | .hbm, ⟨33, _⟩ => ⟨S1024x128, .f32⟩
  | .hbm, ⟨34, _⟩ => ⟨S1024x128, .f32⟩
  | .hbm, ⟨35, _⟩ => ⟨S1x128, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024, .f32⟩
  | .hbm, ⟨41, _⟩ => ⟨S1024x1, .f32⟩
  | .hbm, ⟨42, _⟩ => ⟨S1024x1, .f32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S1, .i32⟩
  | .hbm, ⟨53, _⟩ => ⟨S_, .i32⟩
  | .hbm, ⟨54, _⟩ => ⟨S32768x1, .i32⟩
  | .hbm, ⟨55, _⟩ => ⟨S32768x1, .i1⟩
  | .hbm, ⟨56, _⟩ => ⟨S1x1, .i32⟩
  | .hbm, ⟨57, _⟩ => ⟨S32768x1, .i32⟩
  | .hbm, ⟨58, _⟩ => ⟨S32768x1, .i1⟩
  | .hbm, ⟨59, _⟩ => ⟨S32768x1, .i1⟩
  | .hbm, ⟨60, _⟩ => ⟨S_, .i1⟩
  | .hbm, ⟨61, _⟩ => ⟨S32768, .i1⟩
  | .hbm, ⟨62, _⟩ => ⟨S32768x128, .f32⟩
  | .hbm, ⟨63, _⟩ => ⟨S32768x128, .i1⟩
  | .hbm, ⟨64, _⟩ => ⟨S_, .f32⟩
  | .hbm, ⟨65, _⟩ => ⟨S32768x128, .f32⟩
  | .hbm, ⟨66, _⟩ => ⟨S32768x128, .f32⟩
  | .hbm, ⟨67, _⟩ => ⟨S1024x32x128, .f32⟩
  | .hbm, ⟨68, _⟩ => ⟨S1024x32, .f32⟩
  | .hbm, ⟨69, _⟩ => ⟨S1x1x128, .f32⟩
  | .hbm, ⟨70, _⟩ => ⟨S1024x32x128, .f32⟩
  | .hbm, ⟨71, _⟩ => ⟨S1024x32x128, .f32⟩
  | .hbm, ⟨72, _⟩ => ⟨S1024x32x128, .f32⟩
  | .hbm, ⟨73, _⟩ => ⟨S_, .f32⟩
  | .hbm, ⟨74, _⟩ => ⟨S1024x32, .f32⟩
  | .hbm, ⟨75, _⟩ => ⟨S1024x32x1, .f32⟩
  | .hbm, ⟨76, _⟩ => ⟨S1024x32, .f32⟩
  | .hbm, ⟨77, _⟩ => ⟨S32768, .i32⟩
  | .hbm, ⟨78, _⟩ => ⟨S_, .i32⟩
  | .hbm, ⟨79, _⟩ => ⟨S32768, .i32⟩
  | .hbm, ⟨80, _⟩ => ⟨S32768, .i1⟩
  | .hbm, ⟨81, _⟩ => ⟨S_, .i32⟩
  | .hbm, ⟨82, _⟩ => ⟨S32768, .i32⟩
  | .hbm, ⟨83, _⟩ => ⟨S32768, .i32⟩
  | .hbm, ⟨84, _⟩ => ⟨S32768, .i32⟩
  | .hbm, ⟨85, _⟩ => ⟨S32768x1, .i32⟩
  | .hbm, ⟨86, _⟩ => ⟨S1, .i32⟩
  | .hbm, ⟨87, _⟩ => ⟨S_, .i32⟩
  | .hbm, ⟨88, _⟩ => ⟨S32768x1, .i32⟩
  | .hbm, ⟨89, _⟩ => ⟨S32768x1, .i1⟩
  | .hbm, ⟨90, _⟩ => ⟨S1x1, .i32⟩
  | .hbm, ⟨91, _⟩ => ⟨S32768x1, .i32⟩
  | .hbm, ⟨92, _⟩ => ⟨S32768x1, .i1⟩
  | .hbm, ⟨93, _⟩ => ⟨S32768x1, .i1⟩
  | .hbm, ⟨94, _⟩ => ⟨S_, .i1⟩
  | .hbm, ⟨95, _⟩ => ⟨S32768, .i1⟩
  | .hbm, ⟨96, _⟩ => ⟨S32768, .f32⟩
  | .hbm, ⟨97, _⟩ => ⟨S_, .f32⟩
  | .hbm, ⟨98, _⟩ => ⟨S32768, .f32⟩
  | .hbm, ⟨99, _⟩ => ⟨S32768, .f32⟩
  | .hbm, ⟨100, _⟩ => ⟨S1024x32, .f32⟩
  | .hbm, ⟨101, _⟩ => ⟨S1024x16, .f32⟩
  | .hbm, ⟨102, _⟩ => ⟨S1024x16, .i32⟩
  | .hbm, ⟨103, _⟩ => ⟨S_, .f32⟩
  | .hbm, ⟨104, _⟩ => ⟨S100000, .f32⟩
  | .hbm, ⟨105, _⟩ => ⟨S16384, .i32⟩
  | .hbm, ⟨106, _⟩ => ⟨S16384, .f32⟩
  | .hbm, ⟨107, _⟩ => ⟨S_, .i32⟩
  | .hbm, ⟨108, _⟩ => ⟨S16384, .i32⟩
  | .hbm, ⟨109, _⟩ => ⟨S16384, .i1⟩
  | .hbm, ⟨110, _⟩ => ⟨S_, .i32⟩
  | .hbm, ⟨111, _⟩ => ⟨S16384, .i32⟩
  | .hbm, ⟨112, _⟩ => ⟨S16384, .i32⟩
  | .hbm, ⟨113, _⟩ => ⟨S16384, .i32⟩
  | .hbm, ⟨114, _⟩ => ⟨S16384x1, .i32⟩
  | .hbm, ⟨115, _⟩ => ⟨S100000, .f32⟩
  | .local _ .vmem, ⟨0, _⟩ => ⟨S256x32, .f32⟩
  | .local _ .vmem, ⟨1, _⟩ => ⟨S256x32, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x32, .i32⟩
  | .local _ .vmem, ⟨13, _⟩ => ⟨S256x32, .i32⟩
  | .local _ .vmem, ⟨14, _⟩ => ⟨S256x16, .f32⟩
  | .local _ .vmem, ⟨15, _⟩ => ⟨S256x16, .f32⟩
  | .local _ .vmem, ⟨16, _⟩ => ⟨S256x16, .i32⟩
  | .local _ .vmem, ⟨17, _⟩ => ⟨S256x16, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_0 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v24 : Ref sig .tc := ⟨.hbm, 99, rfl⟩
abbrev main_v25 : Ref sig .tc := ⟨.hbm, 100, rfl⟩
abbrev main_v26_0 : Ref sig .tc := ⟨.hbm, 101, rfl⟩
abbrev main_v26_1 : Ref sig .tc := ⟨.hbm, 102, rfl⟩
abbrev main_cst_1 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_c : Ref sig .tc := ⟨.hbm, 107, rfl⟩
abbrev main_v30 : Ref sig .tc := ⟨.hbm, 108, rfl⟩
abbrev main_v31 : Ref sig .tc := ⟨.hbm, 109, rfl⟩
abbrev main_c_2 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x16 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S100000x128 : Shape := ⟨2, ![100000, 128]⟩
abbrev S1024 : Shape := ⟨1, ![1024]⟩
abbrev S1024x32 : Shape := ⟨2, ![1024, 32]⟩
abbrev S100000 : Shape := ⟨1, ![100000]⟩
abbrev S128 : Shape := ⟨1, ![128]⟩
abbrev S128x1 : Shape := ⟨2, ![128, 1]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1x128 : Shape := ⟨2, ![1, 128]⟩
abbrev S32768 : Shape := ⟨1, ![32768]⟩
abbrev S32768x1 : Shape := ⟨2, ![32768, 1]⟩
abbrev S32768x128 : Shape := ⟨2, ![32768, 128]⟩
abbrev S1024x32x128 : Shape := ⟨3, ![1024, 32, 128]⟩
abbrev S1x1x128 : Shape := ⟨3, ![1, 1, 128]⟩
abbrev S1024x1x128 : Shape := ⟨3, ![1024, 1, 128]⟩
abbrev S1024x32x1 : Shape := ⟨3, ![1024, 32, 1]⟩
abbrev S1024x16 : Shape := ⟨2, ![1024, 16]⟩
abbrev S1024x16x1 : Shape := ⟨3, ![1024, 16, 1]⟩
abbrev S1x1x1 : Shape := ⟨3, ![1, 1, 1]⟩
abbrev S16384 : Shape := ⟨1, ![16384]⟩
abbrev S16384x1 : Shape := ⟨2, ![16384, 1]⟩

abbrev nBuf : Space → Nat
  | .hbm => 204
  | .vmem => 0
  | .smem => 0
  | _ => 0

abbrev hbmTy0_0 (i : Nat) : BufTy := match i % 128 with
  | 0 => ⟨S100000x128, .f32⟩
  | 1 => ⟨S1024, .i32⟩
  | 2 => ⟨S1024x32, .i32⟩
  | 3 => ⟨S100000, .f32⟩
  | 4 => ⟨S128, .f32⟩
  | 5 => ⟨S128, .f32⟩
  | 6 => ⟨S128x1, .f32⟩
  | 7 => ⟨S128x1, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1, .i32⟩
  | 17 => ⟨S_, .i32⟩
  | 18 => ⟨S1024x1, .i32⟩
  | 19 => ⟨S1024x1, .i1⟩
  | 20 => ⟨S1x1, .i32⟩
  | 21 => ⟨S1024x1, .i32⟩
  | 22 => ⟨S1024x1, .i1⟩
  | 23 => ⟨S1024x1, .i1⟩
  | 24 => ⟨S_, .i1⟩
  | 25 => ⟨S1024, .i1⟩
  | 26 => ⟨S1024x128, .f32⟩
  | 27 => ⟨S1024x128, .i1⟩
  | 28 => ⟨S_, .f32⟩
  | 29 => ⟨S1024x128, .f32⟩
  | 30 => ⟨S1024x128, .f32⟩
  | 31 => ⟨S1x128, .f32⟩
  | 32 => ⟨S1024x128, .f32⟩
  | 33 => ⟨S1024x128, .f32⟩
  | 34 => ⟨S32768, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S1, .i32⟩
  | 44 => ⟨S_, .i32⟩
  | 45 => ⟨S32768x1, .i32⟩
  | 46 => ⟨S32768x1, .i1⟩
  | 47 => ⟨S1x1, .i32⟩
  | 48 => ⟨S32768x1, .i32⟩
  | 49 => ⟨S32768x1, .i1⟩
  | 50 => ⟨S32768x1, .i1⟩
  | 51 => ⟨S_, .i1⟩
  | 52 => ⟨S32768, .i1⟩
  | 53 => ⟨S32768x128, .f32⟩
  | 54 => ⟨S32768x128, .i1⟩
  | 55 => ⟨S_, .f32⟩
  | 56 => ⟨S32768x128, .f32⟩
  | 57 => ⟨S32768x128, .f32⟩
  | 58 => ⟨S1024x32x128, .f32⟩
  | 59 => ⟨S1x1x128, .f32⟩
  | 60 => ⟨S1024x32x128, .f32⟩
  | 61 => ⟨S1024x32x128, .f32⟩
  | 62 => ⟨S1024x1x128, .f32⟩
  | 63 => ⟨S1024x32x128, .f32⟩
  | 64 => ⟨S1024x32x128, .f32⟩
  | 65 => ⟨S_, .f32⟩
  | 66 => ⟨S1024x32, .f32⟩
  | 67 => ⟨S1024x128, .f32⟩
  | 68 => ⟨S_, .f32⟩
  | 69 => ⟨S1024, .f32⟩
  | 70 => ⟨S1024, .f32⟩
  | 71 => ⟨S1024x1, .f32⟩
  | 72 => ⟨S1024x32x128, .f32⟩
  | 73 => ⟨S_, .f32⟩
  | 74 => ⟨S1024x32, .f32⟩
  | 75 => ⟨S1024x32, .f32⟩
  | 76 => ⟨S1024x32, .f32⟩
  | 77 => ⟨S1024x32, .f32⟩
  | 78 => ⟨S_, .f32⟩
  | 79 => ⟨S1024x32, .f32⟩
  | 80 => ⟨S1024x32, .f32⟩
  | 81 => ⟨S1024x32, .f32⟩
  | 82 => ⟨S1024x1, .f32⟩
  | 83 => ⟨S1024x32x1, .f32⟩
  | 84 => ⟨S1024x32, .f32⟩
  | 85 => ⟨S1024x32, .f32⟩
  | 86 => ⟨S1024x32, .f32⟩
  | 87 => ⟨S1024x32, .f32⟩
  | 88 => ⟨S1024x32, .f32⟩
  | 89 => ⟨S_, .f32⟩
  | 90 => ⟨S1024x32, .f32⟩
  | 91 => ⟨S1024x32, .f32⟩
  | 92 => ⟨S_, .f32⟩
  | 93 => ⟨S1024x32, .f32⟩
  | 94 => ⟨S1024x32, .f32⟩
  | 95 => ⟨S32768, .i32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S1, .i32⟩
  | 105 => ⟨S_, .i32⟩
  | 106 => ⟨S32768x1, .i32⟩
  | 107 => ⟨S32768x1, .i1⟩
  | 108 => ⟨S1x1, .i32⟩
  | 109 => ⟨S32768x1, .i32⟩
  | 110 => ⟨S32768x1, .i1⟩
  | 111 => ⟨S32768x1, .i1⟩
  | 112 => ⟨S_, .i1⟩
  | 113 => ⟨S32768, .i1⟩
  | 114 => ⟨S32768, .f32⟩
  | 115 => ⟨S_, .f32⟩
  | 116 => ⟨S32768, .f32⟩
  | 117 => ⟨S32768, .f32⟩
  | 118 => ⟨S1024x32, .f32⟩
  | 119 => ⟨S_, .f32⟩
  | 120 => ⟨S1024x32, .f32⟩
  | 121 => ⟨S1024x32, .f32⟩
  | 122 => ⟨S_, .f32⟩
  | 123 => ⟨S1024x32, .f32⟩
  | 124 => ⟨S1024x32, .f32⟩
  | 125 => ⟨S1024x32, .f32⟩
  | 126 => ⟨S1024x32, .f32⟩
  | 127 => ⟨S1024x1, .f32⟩
  | _ => ⟨S100000x128, .f32⟩

abbrev hbmTy0_1 (i : Nat) : BufTy := match i % 128 with
  | 0 => ⟨S_, .f32⟩
  | 1 => ⟨S1024x1, .f32⟩
  | 2 => ⟨S1024x1, .i1⟩
  | 3 => ⟨S_, .f32⟩
  | 4 => ⟨S_, .f32⟩
  | 5 => ⟨S1024x1, .f32⟩
  | 6 => ⟨S1024x1, .f32⟩
  | 7 => ⟨S1024x32, .f32⟩
  | 8 => ⟨S1024x32, .f32⟩
  | 9 => ⟨S_, .f32⟩
  | 10 => ⟨S1024x32, .f32⟩
  | 11 => ⟨S1024x32, .f32⟩
  | 12 => ⟨S_, .f32⟩
  | 13 => ⟨S_, .f32⟩
  | 14 => ⟨S_, .f32⟩
  | 15 => ⟨S1024x32, .i1⟩
  | 16 => ⟨S_, .f32⟩
  | 17 => ⟨S1024x32, .f32⟩
  | 18 => ⟨S1024x32, .f32⟩
  | 19 => ⟨S_, .f32⟩
  | 20 => ⟨S1024x32, .f32⟩
  | 21 => ⟨S1024x32, .i1⟩
  | 22 => ⟨S_, .f32⟩
  | 23 => ⟨S1024x32, .f32⟩
  | 24 => ⟨S1024x32, .f32⟩
  | 25 => ⟨S_, .f32⟩
  | 26 => ⟨S1024x32, .f32⟩
  | 27 => ⟨S1024x32, .i1⟩
  | 28 => ⟨S_, .f32⟩
  | 29 => ⟨S1024x32, .f32⟩
  | 30 => ⟨S1024x32, .f32⟩
  | 31 => ⟨S_, .f32⟩
  | 32 => ⟨S_, .f32⟩
  | 33 => ⟨S_, .f32⟩
  | 34 => ⟨S1024x32, .f32⟩
  | 35 => ⟨S1024x32, .f32⟩
  | 36 => ⟨S_, .f32⟩
  | 37 => ⟨S1024x32, .f32⟩
  | 38 => ⟨S1024x32, .f32⟩
  | 39 => ⟨S1024x16, .f32⟩
  | 40 => ⟨S1024x16, .i32⟩
  | 41 => ⟨S_, .i32⟩
  | 42 => ⟨S1024x16, .i32⟩
  | 43 => ⟨S1024x16, .i1⟩
  | 44 => ⟨S_, .i32⟩
  | 45 => ⟨S1024x16, .i32⟩
  | 46 => ⟨S1024x16, .i32⟩
  | 47 => ⟨S1024x16, .i32⟩
  | 48 => ⟨S1024x16x1, .i32⟩
  | 49 => ⟨S1, .i32⟩
  | 50 => ⟨S_, .i32⟩
  | 51 => ⟨S1024x16x1, .i32⟩
  | 52 => ⟨S1024x16x1, .i1⟩
  | 53 => ⟨S1x1x1, .i32⟩
  | 54 => ⟨S1024x16x1, .i32⟩
  | 55 => ⟨S1024x16x1, .i1⟩
  | 56 => ⟨S1024x16x1, .i1⟩
  | 57 => ⟨S_, .i1⟩
  | 58 => ⟨S1024x16, .i1⟩
  | 59 => ⟨S1024x16, .i32⟩
  | 60 => ⟨S_, .i32⟩
  | 61 => ⟨S1024x16, .i32⟩
  | 62 => ⟨S1024x16, .i32⟩
  | 63 => ⟨S_, .f32⟩
  | 64 => ⟨S100000, .f32⟩
  | 65 => ⟨S16384, .i32⟩
  | 66 => ⟨S16384, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst : Ref sig .tc := ⟨.hbm, 65, rfl⟩
abbrev main_v13 : Ref sig .tc := ⟨.hbm, 66, rfl⟩
abbrev main_call2_v0 : Ref sig .tc := ⟨.hbm, 67, rfl⟩
abbrev main_call2_cst : Ref sig .tc := ⟨.hbm, 68, rfl⟩
abbrev main_call2_v1 : Ref sig .tc := ⟨.hbm, 69, rfl⟩
abbrev main_v14 : Ref sig .tc := ⟨.hbm, 70, rfl⟩
abbrev main_v15 : Ref sig .tc := ⟨.hbm, 71, rfl⟩
abbrev main_call3_v0 : Ref sig .tc := ⟨.hbm, 72, rfl⟩
abbrev main_call3_cst : Ref sig .tc := ⟨.hbm, 73, rfl⟩
abbrev main_call3_v1 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_cst_1 : Ref sig .tc := ⟨.hbm, 89, rfl⟩
abbrev main_v29 : Ref sig .tc := ⟨.hbm, 90, rfl⟩
abbrev main_v30 : Ref sig .tc := ⟨.hbm, 91, rfl⟩
abbrev main_cst_2 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_cst : Ref sig .tc := ⟨.hbm, 115, rfl⟩
abbrev main_call4_v14 : Ref sig .tc := ⟨.hbm, 116, rfl⟩
abbrev main_v34 : Ref sig .tc := ⟨.hbm, 117, rfl⟩
abbrev main_v35 : Ref sig .tc := ⟨.hbm, 118, rfl⟩
abbrev main_cst_3 : Ref sig .tc := ⟨.hbm, 119, rfl⟩
abbrev main_v36 : Ref sig .tc := ⟨.hbm, 120, rfl⟩
abbrev main_v37 : Ref sig .tc := ⟨.hbm, 121, rfl⟩
abbrev main_cst_4 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_cst_5 : Ref sig .tc := ⟨.hbm, 128, rfl⟩
abbrev main_v43 : Ref sig .tc := ⟨.hbm, 129, rfl⟩
abbrev main_v44 : Ref sig .tc := ⟨.hbm, 130, rfl⟩
abbrev main_cst_6 : Ref sig .tc := ⟨.hbm, 131, rfl⟩
abbrev main_call5_v0 : Ref sig .tc := ⟨.hbm, 132, rfl⟩
abbrev main_call5_v1 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_cst_7 : Ref sig .tc := ⟨.hbm, 137, rfl⟩
abbrev main_v48 : Ref sig .tc := ⟨.hbm, 138, rfl⟩
abbrev main_v49 : Ref sig .tc := ⟨.hbm, 139, rfl⟩
abbrev main_cst_8 : Ref sig .tc := ⟨.hbm, 140, rfl⟩
abbrev main_cst_9 : Ref sig .tc := ⟨.hbm, 141, rfl⟩
abbrev main_cst_10 : Ref sig .tc := ⟨.hbm, 142, rfl⟩
abbrev main_call6_v0 : Ref sig .tc := ⟨.hbm, 143, rfl⟩
abbrev main_call6_v1 : Ref sig .tc := ⟨.hbm, 144, rfl⟩
abbrev main_call6_call0_v0 : Ref sig .tc := ⟨.hbm, 145, rfl⟩
abbrev main_call6_v2 : Ref sig .tc := ⟨.hbm, 146, rfl⟩
abbrev main_call6_cst : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_call1_v0 : Ref sig .tc := ⟨.hbm, 151, rfl⟩
abbrev main_call6_v6 : Ref sig .tc := ⟨.hbm, 152, rfl⟩
abbrev main_call6_cst_0 : Ref sig .tc := ⟨.hbm, 153, rfl⟩
abbrev main_call6_v7 : Ref sig .tc := ⟨.hbm, 154, rfl⟩
abbrev main_call6_v8 : Ref sig .tc := ⟨.hbm, 155, rfl⟩
abbrev main_call6_v9 : Ref sig .tc := ⟨.hbm, 156, rfl⟩
abbrev main_call6_call2_v0 : Ref sig .tc := ⟨.hbm, 157, rfl⟩
abbrev main_v50 : Ref sig .tc := ⟨.hbm, 158, rfl⟩
abbrev main_cst_11 : Ref sig .tc := ⟨.hbm, 159, rfl⟩
abbrev main_cst_12 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_v51 : Ref sig .tc := ⟨.hbm, 166, rfl⟩
abbrev main_values : Ref sig .tc := ⟨.hbm, 167, rfl⟩
abbrev main_indices : Ref sig .tc := ⟨.hbm, 168, rfl⟩
abbrev main_call8_c : Ref sig .tc := ⟨.hbm, 169, rfl⟩
abbrev main_call8_v0 : Ref sig .tc := ⟨.hbm, 170, rfl⟩
abbrev main_call8_v1 : Ref sig .tc := ⟨.hbm, 171, rfl⟩
abbrev main_call8_c_0 : Ref sig .tc := ⟨.hbm, 172, rfl⟩
abbrev main_call8_v2 : Ref sig .tc := ⟨.hbm, 173, rfl⟩
abbrev main_call8_v3 : Ref sig .tc := ⟨.hbm, 174, rfl⟩
abbrev main_call8_v4 : Ref sig .tc := ⟨.hbm, 175, rfl⟩
abbrev main_call8_v5 : Ref sig .tc := ⟨.hbm, 176, rfl⟩
abbrev main_call8_c_1 : Ref sig .tc := ⟨.hbm, 177, rfl⟩
abbrev main_call8_c_2 : Ref sig .tc := ⟨.hbm, 178, rfl⟩
abbrev main_call8_v6 : Ref sig .tc := ⟨.hbm, 179, rfl⟩
abbrev main_call8_v7 : Ref sig .tc := ⟨.hbm, 180, rfl⟩
abbrev main_call8_v8 : Ref sig .tc := ⟨.hbm, 181, rfl⟩
abbrev main_call8_v9 : Ref sig .tc := ⟨.hbm, 182, rfl⟩
abbrev main_call8_v10 : Ref sig .tc := ⟨.hbm, 183, rfl⟩
abbrev main_call8_v11 : Ref sig .tc := ⟨.hbm, 184, rfl⟩
abbrev main_call8_c_3 : Ref sig .tc := ⟨.hbm, 185, rfl⟩
abbrev main_call8_v12 : Ref sig .tc := ⟨.hbm, 186, rfl⟩
abbrev main_call8_v13 : Ref sig .tc := ⟨.hbm, 187, rfl⟩
abbrev main_call8_c_4 : Ref sig .tc := ⟨.hbm, 188, rfl⟩
abbrev main_call8_v14 : Ref sig .tc := ⟨.hbm, 189, rfl⟩
abbrev main_v52 : Ref sig .tc := ⟨.hbm, 190, rfl⟩
abbrev main_cst_13 : Ref sig .tc := ⟨.hbm, 191, rfl⟩
abbrev main_v53 : Ref sig .tc := ⟨.hbm, 192, rfl⟩
abbrev main_v54 : Ref sig .tc := ⟨.hbm, 193, rfl⟩
abbrev main_v55 : Ref sig .tc := ⟨.hbm, 194, rfl⟩
abbrev main_c : Ref sig .tc := ⟨.hbm, 195, rfl⟩
abbrev main_v56 : Ref sig .tc := ⟨.hbm, 196, rfl⟩
abbrev main_v57 : Ref sig .tc := ⟨.hbm, 197, rfl⟩
abbrev main_c_14 : Ref sig .tc := ⟨.hbm, 198, rfl⟩
abbrev main_v58 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩

abbrev nD : Nat := 1
abbrev τ : Topo := Topo.v7x

variable {F : FTy → Type} [FloatOps F]
-- ==== Proof.Terms.lean ====
/-
  The host's arrays, as functions of the arguments.

  Both programs gather the root and neighbour features and the neighbours' weights by the same operations. Each array is
  named here once; `Entry.lean` reads the kernel's operands as these, `Reference.lean` the reference's scores.
-/
module

public import proofs.«01_k».proof.Proof.Gen.ReferenceIdeal.Run

@[expose] public section

set_option maxRecDepth 16384

noncomputable section

namespace Cert.Terms

open Idealize.ShloMosaic Cert.ReferenceIdeal Cert.ReferenceIdeal.Gen

variable {F : FTy → Type} [FloatOps F]

/-- A batch of row numbers as gather positions: a negative one counts from the end. -/
def rootPos (bn : IVec S1024 32) : IVec S1024x1 32 :=
  broadcastInDim S1024x1 ![0] bcast_S1024_S1024x1_0
    (select (cmpi .slt bn (broadcastInDim S1024 ![] bcast_S_S1024 (constantI S_ 32 0#32)))
      (addi bn (broadcastInDim S1024 ![] bcast_S_S1024 (constantI S_ 32 100000#32))) bn)

/-- Whether a root's gather position is a row of the table. -/
def rootOk (w : IVec S1024x1 32) : IVec S1024 1 :=
  Host.reduce IntOp.andi
    (andi (cmpi .sge w (broadcastInDim S1024x1 ![] bcast_S_S1024x1 (constantI S_ 32 0#32)))
      (cmpi .sle w (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The roots' features, a filling value at a position outside the table. -/
def roots (x : FVec F S100000x128 .f32) (bn : IVec S1024 32) : FVec F S1024x128 .f32 :=
  select (broadcastInDim S1024x128 ![0] bcast_S1024_S1024x128_0 (rootOk (rootPos bn)))
    (Host.gather gather_S100000x128_S1024x1_S1024x128_1_0_n_n_0_1_1128 x (rootPos bn))
    (broadcastInDim S1024x128 ![] bcast_S_S1024x128 (constant S_ .f32 0x7FC00000#32))

/-- A line of neighbours as gather positions: a negative one counts from the end. -/
def nbrPos (fl : IVec S32768 32) : IVec S32768x1 32 :=
  broadcastInDim S32768x1 ![0] bcast_S32768_S32768x1_0
    (select (cmpi .slt fl (broadcastInDim S32768 ![] bcast_S_S32768 (constantI S_ 32 0#32)))
      (addi fl (broadcastInDim S32768 ![] bcast_S_S32768 (constantI S_ 32 100000#32))) fl)

/-- Whether a neighbour's gather position is a row of the table. -/
def nbrOk (w : IVec S32768x1 32) : IVec S32768 1 :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 99999#32)))))
    (constantI S_ 1 1#1) reducesTo_S32768x1_S32768_d1 h_S_

/-- The features of a line of neighbours, a filling value at a position outside the table. -/
def nbrRows (x : FVec F S100000x128 .f32) (fl : IVec S32768 32) : FVec F S32768x128 .f32 :=
  select (broadcastInDim S32768x128 ![0] bcast_S32768_S32768x128_0 (nbrOk (nbrPos fl)))
    (Host.gather gather_S100000x128_S32768x1_S32768x128_1_0_n_n_0_1_1128 x (nbrPos fl))
    (broadcastInDim S32768x128 ![] bcast_S_S32768x128 (constant S_ .f32 0x7FC00000#32))

/-- The weights of a line of neighbours, a filling value at a position outside the table. -/
def nbrWeights (im : FVec F S100000 .f32) (fl : IVec S32768 32) : FVec F S32768 .f32 :=
  select (nbrOk (nbrPos fl))
    (Host.gather gather_S100000_S32768x1_S32768_n_0_n_n_0_1_1 im (nbrPos fl))
    (broadcastInDim S32768 ![] bcast_S_S32768 (constant S_ .f32 0x7FC00000#32))

/-- The neighbours in one line. -/
def line (nb : IVec S1024x32 32) : IVec S32768 32 := shapeCast S32768 nb shapeCasts_S1024x32_S32768

/-- The neighbours' features. -/
def feats (x : FVec F S100000x128 .f32) (nb : IVec S1024x32 32) : FVec F S1024x32x128 .f32 :=
  shapeCast S1024x32x128 (nbrRows x (line nb)) shapeCasts_S32768x128_S1024x32x128

/-- The neighbours' weights. -/
def weights (im : FVec F S100000 .f32) (nb : IVec S1024x32 32) : FVec F S1024x32 .f32 :=
  shapeCast S1024x32 (nbrWeights im (line nb)) shapeCasts_S32768_S1024x32

/-- The roots' features scaled along the feature axis. -/
def scaledRoots (xr : FVec F S1024x128 .f32) (w : FVec F S128 .f32) : FVec F S1024x128 .f32 :=
  mulf xr (broadcastInDim S1024x128 ![0, 1] bcast_S1x128_S1024x128_0_1 (broadcastInDim S1x128 ![1] bcast_S128_S1x128_1 w))

/-- The neighbours' features scaled along the feature axis. -/
def scaledFeats (xu : FVec F S1024x32x128 .f32) (w : FVec F S128 .f32) : FVec F S1024x32x128 .f32 :=
  mulf xu (broadcastInDim S1024x32x128 ![0, 1, 2] bcast_S1x1x128_S1024x32x128_0_1_2
    (broadcastInDim S1x1x128 ![2] bcast_S128_S1x1x128_2 w))

/-- The squared length of every root's scaled features. -/
def rootSq (hr : FVec F S1024x128 .f32) : FVec F S1024 .f32 :=
  Host.reduceAdd (mulf hr hr) (constant S_ .f32 0x00000000#32) reducesTo_S1024x128_S1024_d1 h_S_

/-- The squared length of every neighbour's scaled features. -/
def nbrSq (hu : FVec F S1024x32x128 .f32) : FVec F S1024x32 .f32 :=
  Host.reduceAdd (mulf hu hu) (constant S_ .f32 0x00000000#32) reducesTo_S1024x32x128_S1024x32_d2 h_S_

/-- The product of every neighbour's features with its root's, as the reference takes it: both scaled, then summed. -/
def dots (hr : FVec F S1024x128 .f32) (hu : FVec F S1024x32x128 .f32) : FVec F S1024x32 .f32 :=
  Host.reduceAdd (mulf (broadcastInDim S1024x32x128 ![0, 1, 2] bcast_S1024x1x128_S1024x32x128_0_1_2
      (broadcastInDim S1024x1x128 ![0, 2] bcast_S1024x128_S1024x1x128_0_2 hr)) hu)
    (constant S_ .f32 0x00000000#32) reducesTo_S1024x32x128_S1024x32_d2 h_S_

/-- The roots' part of the layer score. -/
def rootLayer (xr : FVec F S1024x128 .f32) (w : FVec F S128x1 .f32) : FVec F S1024x1 .f32 :=
  Host.dotGeneral dot_S1024x128_S128x1_S1024x1_1_0_0_1_n_n none xr w

/-- The neighbours' part of the layer score. -/
def nbrLayer (xu : FVec F S1024x32x128 .f32) (w : FVec F S128x1 .f32) : FVec F S1024x32 .f32 :=
  shapeCast S1024x32 (Host.dotGeneral dot_S1024x32x128_S128x1_S1024x32x1_2_0_01_1_n_n none xu w) shapeCasts_S1024x32x1_S1024x32

/-- The sum over the nodes of the selected values: each value added at its node, a negative node counting from the end. -/
def gathered (p : FVec F S1024x16 .f32) (nodes : IVec S1024x16 32) : FVec F S100000 .f32 :=
  Host.scatterAdd scatter_S100000_S16384x1_S16384_n_0_0_1
    (broadcastInDim S100000 ![] bcast_S_S100000 (constant S_ .f32 0x00000000#32))
    (broadcastInDim S16384x1 ![0] bcast_S16384_S16384x1_0
      (select (cmpi .slt (shapeCast S16384 nodes shapeCasts_S1024x16_S16384) (broadcastInDim S16384 ![] bcast_S_S16384 (constantI S_ 32 0#32)))
        (addi (shapeCast S16384 nodes shapeCasts_S1024x16_S16384) (broadcastInDim S16384 ![] bcast_S_S16384 (constantI S_ 32 100000#32)))
        (shapeCast S16384 nodes shapeCasts_S1024x16_S16384)))
    (shapeCast S16384 p shapeCasts_S1024x16_S16384)

end Cert.Terms

end

end
-- ==== Proof.Entry.lean ====
/-
  The kernel's operands where the launch begins.

  The host computes six arrays before the launch. Each is read here as a term of the arguments, by the names of
  `Terms.lean`.
-/
module

public import proofs.«01_k».proof.Proof.Gen.KernelIdeal.Frame
public import proofs.«01_k».proof.Proof.Terms
public import Idealize.ShloMosaic.Lib.StableHlo.RunRead

@[expose] public section

set_option maxRecDepth 16384

noncomputable section

namespace Cert.Entry

open Idealize.ShloMosaic Idealize.ShloMosaic.TcCoe Idealize.SL.Sem Cert.KernelIdeal Cert.KernelIdeal.Gen

variable {F : FTy → Type} [FloatOps F]
variable (W : Valuation τ sig (Elt F))

/-! ## Each line of host operations -/

/-- The first line leaves the gathered root features. -/
theorem line0_v0 : StableHlo.after hostOps0 W (Proc.devRef .tc main_v0)
    = Cert.Terms.roots (W (Proc.devRef .tc main_arg0)) (W (Proc.devRef .tc main_arg1)) := by
  unfold hostOps0
  after_reads_simp
  rfl

/-- The second line scales the roots by both weights, -/
theorem line1_v4 : StableHlo.after hostOps0_1 W (Proc.devRef .tc main_v4)
    = Cert.Terms.scaledRoots (W (Proc.devRef .tc main_v0)) (mulf (φ := .f32) (W (Proc.devRef .tc main_arg4)) (W (Proc.devRef .tc main_arg5))) := by
  unfold hostOps0_1
  after_reads_simp
  rfl

/-- takes the squared lengths of the roots scaled by their own weight, -/
theorem line1_v10 : StableHlo.after hostOps0_1 W (Proc.devRef .tc main_v10)
    = broadcastInDim S1024x1 ![0] bcast_S1024_S1024x1_0
        (Cert.Terms.rootSq (Cert.Terms.scaledRoots (W (Proc.devRef .tc main_v0)) (W (Proc.devRef .tc main_arg4)))) := by
  unfold hostOps0_1
  after_reads_simp
  rfl

/-- takes the roots' part of the layer score, -/
theorem line1_v11 : StableHlo.after hostOps0_1 W (Proc.devRef .tc main_v11)
    = Cert.Terms.rootLayer (W (Proc.devRef .tc main_v0)) (W (Proc.devRef .tc main_arg6)) := by
  unfold hostOps0_1
  after_reads_simp
  rfl

/-- and puts the neighbours in one line. -/
theorem line1_v12 : StableHlo.after hostOps0_1 W (Proc.devRef .tc main_v12)
    = Cert.Terms.line (W (Proc.devRef .tc main_arg2)) := by
  unfold hostOps0_1
  after_reads_simp
  rfl

/-- The third line gathers the neighbours' features. -/
theorem line2_v13 : StableHlo.after hostOps0_2 W (Proc.devRef .tc main_v13)
    = Cert.Terms.nbrRows (W (Proc.devRef .tc main_arg0)) (W (Proc.devRef .tc main_v12)) := by
  unfold hostOps0_2
  after_reads_simp
  simp -implicitDefEqProofs only [StableHlo.TRef.toBuf, StableHlo.TRef.ofBuf, cast_cast, cast_eq]
  unfold Cert.Terms.nbrRows Cert.Terms.nbrOk Cert.Terms.nbrPos
  rfl

/-- The neighbours' features as an array of three axes. -/
abbrev cube (v : FVec F S32768x128 .f32) : FVec F S1024x32x128 .f32 := shapeCast S1024x32x128 v shapeCasts_S32768x128_S1024x32x128

/-- The fourth line contracts the neighbours' features with the scaled roots, -/
theorem line3_v15 : StableHlo.after hostOps0_3 W (Proc.devRef .tc main_v15)
    = Host.dotGeneral (F := F) (φ₁ := .f32) (φ₂ := .f32) dot_S1024x32x128_S1024x128_S1024x32_2_1_1_n_0_0 none (cube (W (Proc.devRef .tc main_v13))) (W (Proc.devRef .tc main_v4)) := by
  unfold hostOps0_3
  after_reads_simp
  rfl

/-- takes their squared lengths, -/
theorem line3_v20 : StableHlo.after hostOps0_3 W (Proc.devRef .tc main_v20)
    = Cert.Terms.nbrSq (Cert.Terms.scaledFeats (cube (W (Proc.devRef .tc main_v13))) (W (Proc.devRef .tc main_arg5))) := by
  unfold hostOps0_3
  after_reads_simp
  rfl

/-- takes their part of the layer score, -/
theorem line3_v22 : StableHlo.after hostOps0_3 W (Proc.devRef .tc main_v22)
    = Cert.Terms.nbrLayer (cube (W (Proc.devRef .tc main_v13))) (W (Proc.devRef .tc main_arg7)) := by
  unfold hostOps0_3
  after_reads_simp
  rfl

/-- and puts the neighbours in one line again. -/
theorem line3_v23 : StableHlo.after hostOps0_3 W (Proc.devRef .tc main_v23)
    = Cert.Terms.line (W (Proc.devRef .tc main_arg2)) := by
  unfold hostOps0_3
  after_reads_simp
  rfl

/-- The fifth line gathers the neighbours' weights. -/
theorem line4_v24 : StableHlo.after hostOps0_4 W (Proc.devRef .tc main_v24)
    = Cert.Terms.nbrWeights (W (Proc.devRef .tc main_arg3)) (W (Proc.devRef .tc main_v23)) := by
  unfold hostOps0_4
  after_reads_simp
  simp -implicitDefEqProofs only [StableHlo.TRef.toBuf, StableHlo.TRef.ofBuf, cast_cast, cast_eq]
  unfold Cert.Terms.nbrWeights Cert.Terms.nbrOk Cert.Terms.nbrPos
  rfl

/-- The sixth line puts the weights back in rows. -/
theorem line5_v25 : StableHlo.after hostOps0_5 W (Proc.devRef .tc main_v25)
    = shapeCast S1024x32 (W (Proc.devRef .tc main_v24)) shapeCasts_S32768_S1024x32 := by
  unfold hostOps0_5
  after_reads_simp
  rfl

/-! ## What each line leaves alone -/

/-- The buffers the first line writes. -/
abbrev writes0 : List (Ref sig .tc) :=
  [ main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_v14,
    main_call0_cst, main_call0_v15, main_v0 ]

/-- The first line leaves every other buffer alone. -/
theorem keep0 {r : Ref sig .tc} (hr : r ∉ writes0) : StableHlo.after hostOps0 W (Proc.devRef .tc r) = W (Proc.devRef .tc r) :=
  StableHlo.after_unwritten writes0 rfl hr W

/-- The buffers the second line writes. -/
abbrev writes1 : List (Ref sig .tc) :=
  [ main_v1, main_v2, main_v3, main_v4, main_v5, main_v6, main_v7, main_v8, main_cst, main_v9, main_v10, main_v11,
    main_v12 ]

/-- The second line leaves every other buffer alone. -/
theorem keep1 {r : Ref sig .tc} (hr : r ∉ writes1) : StableHlo.after hostOps0_1 W (Proc.devRef .tc r) = W (Proc.devRef .tc r) :=
  StableHlo.after_unwritten writes1 rfl hr W

/-- The buffers the third line writes. -/
abbrev writes2 : List (Ref sig .tc) :=
  [ main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_v14,
    main_call1_cst, main_call1_v15, main_v13 ]

/-- The third line leaves every other buffer alone. -/
theorem keep2 {r : Ref sig .tc} (hr : r ∉ writes2) : StableHlo.after hostOps0_2 W (Proc.devRef .tc r) = W (Proc.devRef .tc r) :=
  StableHlo.after_unwritten writes2 rfl hr W

/-- The buffers the fourth line writes. -/
abbrev writes3 : List (Ref sig .tc) :=
  [ main_v14, main_v15, main_v16, main_v17, main_v18, main_v19, main_cst_0, main_v20, main_v21, main_v22, main_v23 ]

/-- The fourth line leaves every other buffer alone. -/
theorem keep3 {r : Ref sig .tc} (hr : r ∉ writes3) : StableHlo.after hostOps0_3 W (Proc.devRef .tc r) = W (Proc.devRef .tc r) :=
  StableHlo.after_unwritten writes3 rfl hr W

/-- The buffers the fifth line writes. -/
abbrev writes4 : List (Ref sig .tc) :=
  [ main_call2_c, main_call2_v0, main_call2_v1, main_call2_c_0, main_call2_v2, main_call2_v3, main_call2_v4,
    main_call2_v5, main_call2_c_1, main_call2_c_2, main_call2_v6, main_call2_v7, main_call2_v8, main_call2_v9,
    main_call2_v10, main_call2_v11, main_call2_c_3, main_call2_v12, main_call2_v13, main_call2_cst,
    main_call2_v14, main_v24 ]

/-- The fifth line leaves every other buffer alone. -/
theorem keep4 {r : Ref sig .tc} (hr : r ∉ writes4) : StableHlo.after hostOps0_4 W (Proc.devRef .tc r) = W (Proc.devRef .tc r) :=
  StableHlo.after_unwritten writes4 rfl hr W

/-- The buffers the sixth line writes. -/
abbrev writes5 : List (Ref sig .tc) :=
  [ main_v25 ]

/-- The sixth line leaves every other buffer alone. -/
theorem keep5 {r : Ref sig .tc} (hr : r ∉ writes5) : StableHlo.after hostOps0_5 W (Proc.devRef .tc r) = W (Proc.devRef .tc r) :=
  StableHlo.after_unwritten writes5 rfl hr W

/-! ## The operands where the launch begins -/

variable (m : (ℓ : Loc nD τ sig) → Buf (Elt F) ℓ) (c : Dev nD)

/-- The buffers at the start. -/
def U0 : Valuation τ sig (Elt F) := fun b => m (c, b)

/-- The buffers after the first line. -/
def U1 : Valuation τ sig (Elt F) := StableHlo.after hostOps0 (U0 m c)

/-- The buffers after the second line. -/
def U2 : Valuation τ sig (Elt F) := StableHlo.after hostOps0_1 (U1 m c)

/-- The buffers after the third line. -/
def U3 : Valuation τ sig (Elt F) := StableHlo.after hostOps0_2 (U2 m c)

/-- The buffers after the fourth line. -/
def U4 : Valuation τ sig (Elt F) := StableHlo.after hostOps0_3 (U3 m c)

/-- The buffers after the fifth line. -/
def U5 : Valuation τ sig (Elt F) := StableHlo.after hostOps0_4 (U4 m c)

/-- The launch begins after the sixth line. -/
theorem V0_eq : V0 m c = StableHlo.after hostOps0_5 (U5 m c) := by
  unfold V0 U5 U4 U3 U2 U1 U0
  simp only [List.flatten_cons, List.flatten_nil, List.append_nil, StableHlo.after_append]

/-- A buffer the lines so far do not write is as at the start, after the first line. -/
theorem U1_arg {r : Ref sig .tc} (h0 : r ∉ writes0) :
    U1 m c (Proc.devRef .tc r) = m ((c.tc : Thread nD τ).loc r) :=
  keep0 _ h0

/-- A buffer the lines so far do not write is as at the start, after the second line. -/
theorem U2_arg {r : Ref sig .tc} (h0 : r ∉ writes0) (h1 : r ∉ writes1) :
    U2 m c (Proc.devRef .tc r) = m ((c.tc : Thread nD τ).loc r) :=
  (keep1 _ h1).trans (U1_arg m c h0)

/-- A buffer the lines so far do not write is as at the start, after the third line. -/
theorem U3_arg {r : Ref sig .tc} (h0 : r ∉ writes0) (h1 : r ∉ writes1) (h2 : r ∉ writes2) :
    U3 m c (Proc.devRef .tc r) = m ((c.tc : Thread nD τ).loc r) :=
  (keep2 _ h2).trans (U2_arg m c h0 h1)

/-- A buffer the lines so far do not write is as at the start, after the fourth line. -/
theorem U4_arg {r : Ref sig .tc} (h0 : r ∉ writes0) (h1 : r ∉ writes1) (h2 : r ∉ writes2) (h3 : r ∉ writes3) :
    U4 m c (Proc.devRef .tc r) = m ((c.tc : Thread nD τ).loc r) :=
  (keep3 _ h3).trans (U3_arg m c h0 h1 h2)

/-- After the first line: the gathered root features. -/
theorem U1_v0 : U1 m c (Proc.devRef .tc main_v0) = Cert.Terms.roots (m ((c.tc : Thread nD τ).loc main_arg0)) (m ((c.tc : Thread nD τ).loc main_arg1)) :=
  line0_v0 (U0 m c)

/-- After the second line: the roots scaled by both weights. -/
theorem U2_v4 : U2 m c (Proc.devRef .tc main_v4) = Cert.Terms.scaledRoots (Cert.Terms.roots (m ((c.tc : Thread nD τ).loc main_arg0)) (m ((c.tc : Thread nD τ).loc main_arg1))) (mulf (φ := .f32) (m ((c.tc : Thread nD τ).loc main_arg4)) (m ((c.tc : Thread nD τ).loc main_arg5))) := by
  refine (line1_v4 (U1 m c)).trans ?_
  rw [U1_v0, U1_arg m c (r := main_arg4) (by decide), U1_arg m c (r := main_arg5) (by decide)]

/-- After the third line: the gathered features of the neighbours. -/
theorem U3_v13 : U3 m c (Proc.devRef .tc main_v13) = Cert.Terms.nbrRows (m ((c.tc : Thread nD τ).loc main_arg0)) (Cert.Terms.line (m ((c.tc : Thread nD τ).loc main_arg2))) := by
  refine (line2_v13 (U2 m c)).trans ?_
  rw [U2_arg m c (r := main_arg0) (by decide) (by decide), show U2 m c (Proc.devRef .tc main_v12) = _ from line1_v12 (U1 m c), U1_arg m c (r := main_arg2) (by decide)]

/-- After the fifth line: the gathered weights of the neighbours. -/
theorem U5_v24 : U5 m c (Proc.devRef .tc main_v24) = Cert.Terms.nbrWeights (m ((c.tc : Thread nD τ).loc main_arg3)) (Cert.Terms.line (m ((c.tc : Thread nD τ).loc main_arg2))) := by
  refine (line4_v24 (U4 m c)).trans ?_
  rw [U4_arg m c (r := main_arg3) (by decide) (by decide) (by decide) (by decide), show U4 m c (Proc.devRef .tc main_v23) = _ from line3_v23 (U3 m c), U3_arg m c (r := main_arg2) (by decide) (by decide) (by decide)]

/-- The products: the neighbours' features against the roots scaled by both weights. -/
theorem V_v15 : V m c main_v15 = Host.dotGeneral (F := F) (φ₁ := .f32) (φ₂ := .f32) dot_S1024x32x128_S1024x128_S1024x32_2_1_1_n_0_0 none
      (Cert.Terms.feats (m ((c.tc : Thread nD τ).loc main_arg0)) (m ((c.tc : Thread nD τ).loc main_arg2)))
      (Cert.Terms.scaledRoots (Cert.Terms.roots (m ((c.tc : Thread nD τ).loc main_arg0)) (m ((c.tc : Thread nD τ).loc main_arg1))) (mulf (φ := .f32) (m ((c.tc : Thread nD τ).loc main_arg4)) (m ((c.tc : Thread nD τ).loc main_arg5)))) := by
  unfold V
  rw [V0_eq]
  refine (keep5 (r := main_v15) _ (by decide)).trans ((keep4 (r := main_v15) _ (by decide)).trans ((line3_v15 (U3 m c)).trans ?_))
  rw [U3_v13, show U3 m c (Proc.devRef .tc main_v4) = _ from keep2 (r := main_v4) (U2 m c) (by decide), U2_v4]
  rfl

/-- The squared lengths of the neighbours' scaled features. -/
theorem V_v20 : V m c main_v20 = Cert.Terms.nbrSq (Cert.Terms.scaledFeats (Cert.Terms.feats (m ((c.tc : Thread nD τ).loc main_arg0)) (m ((c.tc : Thread nD τ).loc main_arg2))) (m ((c.tc : Thread nD τ).loc main_arg5))) := by
  unfold V
  rw [V0_eq]
  refine (keep5 (r := main_v20) _ (by decide)).trans ((keep4 (r := main_v20) _ (by decide)).trans ((line3_v20 (U3 m c)).trans ?_))
  rw [U3_v13, U3_arg m c (r := main_arg5) (by decide) (by decide) (by decide)]
  rfl

/-- The neighbours' part of the layer score. -/
theorem V_v22 : V m c main_v22 = Cert.Terms.nbrLayer (Cert.Terms.feats (m ((c.tc : Thread nD τ).loc main_arg0)) (m ((c.tc : Thread nD τ).loc main_arg2))) (m ((c.tc : Thread nD τ).loc main_arg7)) := by
  unfold V
  rw [V0_eq]
  refine (keep5 (r := main_v22) _ (by decide)).trans ((keep4 (r := main_v22) _ (by decide)).trans ((line3_v22 (U3 m c)).trans ?_))
  rw [U3_v13, U3_arg m c (r := main_arg7) (by decide) (by decide) (by decide)]
  rfl

/-- The neighbours' weights. -/
theorem V_v25 : V m c main_v25 = Cert.Terms.weights (m ((c.tc : Thread nD τ).loc main_arg3)) (m ((c.tc : Thread nD τ).loc main_arg2)) := by
  unfold V
  rw [V0_eq]
  refine (line5_v25 (U5 m c)).trans ?_
  rw [U5_v24]
  rfl

/-- The squared lengths of the roots' scaled features. -/
theorem V_v10 : V m c main_v10 = broadcastInDim S1024x1 ![0] bcast_S1024_S1024x1_0
      (Cert.Terms.rootSq (Cert.Terms.scaledRoots (Cert.Terms.roots (m ((c.tc : Thread nD τ).loc main_arg0)) (m ((c.tc : Thread nD τ).loc main_arg1))) (m ((c.tc : Thread nD τ).loc main_arg4)))) := by
  unfold V
  rw [V0_eq]
  refine (keep5 (r := main_v10) _ (by decide)).trans ((keep4 (r := main_v10) _ (by decide)).trans ((keep3 (r := main_v10) _ (by decide)).trans
    ((keep2 (r := main_v10) _ (by decide)).trans ((line1_v10 (U1 m c)).trans ?_))))
  rw [U1_v0, U1_arg m c (r := main_arg4) (by decide)]

/-- The roots' part of the layer score. -/
theorem V_v11 : V m c main_v11 = Cert.Terms.rootLayer (Cert.Terms.roots (m ((c.tc : Thread nD τ).loc main_arg0)) (m ((c.tc : Thread nD τ).loc main_arg1))) (m ((c.tc : Thread nD τ).loc main_arg6)) := by
  unfold V
  rw [V0_eq]
  refine (keep5 (r := main_v11) _ (by decide)).trans ((keep4 (r := main_v11) _ (by decide)).trans ((keep3 (r := main_v11) _ (by decide)).trans
    ((keep2 (r := main_v11) _ (by decide)).trans ((line1_v11 (U1 m c)).trans ?_))))
  rw [U1_v0, U1_arg m c (r := main_arg6) (by decide)]

end Cert.Entry

end

end
-- ==== Proof.Blocks.lean ====
/-
  The blocks of the launch.

  The launch has four points. Point `t` works on the rows `256 t` to `256 t + 255` of every array, whole rows each:
  element `(r, k)` of a block is element `(256 t + r, k)` of its array.
-/
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.Blocks

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

/-- The row of the arrays that row `r` of point `t`'s block is. -/
def rowOf (t : Fin cfg0.N) (r : Fin 256) : Fin 1024 := ⟨t.val * 256 + r.val, by
  have := t.isLt
  have : cfg0.N = 4 := N_0
  omega⟩

/-- Point `t` works on block `t` of the rows and the one block of the columns, in every window. -/
theorem index_all : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) := by decide +kernel

/-! ## The operands' blocks -/

/-- The block of the products. -/
theorem read0 (t : Fin cfg0.N) (r : Fin 256) (k : Fin 32) : iblk m c 0 t (ix2 r k) = V m c main_v15 (ix2 (rowOf t r) k) := by
  blk_ext [iblk, rowOf, index_all t]

/-- The block of the neighbours' squared lengths. -/
theorem read1 (t : Fin cfg0.N) (r : Fin 256) (k : Fin 32) : iblk m c 1 t (ix2 r k) = V m c main_v20 (ix2 (rowOf t r) k) := by
  blk_ext [iblk, rowOf, index_all t]

/-- The block of the neighbours' part of the layer score. -/
theorem read2 (t : Fin cfg0.N) (r : Fin 256) (k : Fin 32) : iblk m c 2 t (ix2 r k) = V m c main_v22 (ix2 (rowOf t r) k) := by
  blk_ext [iblk, rowOf, index_all t]

/-- The block of the neighbours' weights. -/
theorem read3 (t : Fin cfg0.N) (r : Fin 256) (k : Fin 32) : iblk m c 3 t (ix2 r k) = V m c main_v25 (ix2 (rowOf t r) k) := by
  show (win0_3.blk t).view.read (Elt F) (V m c main_v25) (ix2 r k) = _
  generalize V m c main_v25 = A
  blk_ext [iblk, rowOf, index_all t]

/-- The block of the roots' squared lengths. -/
theorem read4 (t : Fin cfg0.N) (r : Fin 256) : iblk m c 4 t (ix2 r 0) = V m c main_v10 (ix2 (rowOf t r) 0) := by
  blk_ext [iblk, rowOf, index_all t]

/-- The block of the roots' part of the layer score. -/
theorem read5 (t : Fin cfg0.N) (r : Fin 256) : iblk m c 5 t (ix2 r 0) = V m c main_v11 (ix2 (rowOf t r) 0) := by
  blk_ext [iblk, rowOf, index_all t]

/-- The block of the nodes. -/
theorem read6 (t : Fin cfg0.N) (r : Fin 256) (k : Fin 32) :
    iblk m c 6 t (ix2 r k) = m ((c.tc : Thread nD τ).loc main_arg2) (ix2 (rowOf t r) k) := by
  rw [← V_main_arg2 m c]
  blk_ext [iblk, rowOf, index_all t]

/-! ## The results' blocks -/

/-- Where an element of the first result's block sits in its array. -/
theorem emb7 (t : Fin cfg0.N) (r : Fin 256) (s : Fin 16) : ((cfg0.win 7).blk t).view.emb (ix2 r s) = ix2 (rowOf t r) s := by
  blk_ext [rowOf, index_all t]

/-- Where an element of the second result's block sits in its array. -/
theorem emb8 (t : Fin cfg0.N) (r : Fin 256) (s : Fin 16) : ((cfg0.win 8).blk t).view.emb (ix2 r s) = ix2 (rowOf t r) s := by
  blk_ext [rowOf, index_all t]

end Cert.Blocks

end

end
-- ==== Proof.Score.lean ====
/-
  One score, as a function of extended reals.

  Both programs form a neighbour's raw score from four numbers and then divide it by the first neighbour's. `raw` and
  `score` say so at one element; the kernel's block of scores is read as these (`block_apply`).
-/
module

public import proofs.«01_k».proof.Proof.Gen.KernelIdeal.Frame
public import Idealize.ShloMosaic.Lib.Pointwise

@[expose] public section

set_option maxRecDepth 16384

noncomputable section

namespace Cert.Score

open Idealize.ShloMosaic Cert.KernelIdeal Cert.KernelIdeal.Gen

/-- A constant by its bit pattern. -/
abbrev lit (b : BitVec 32) : EReal := Ideal.ofBits .f32 b

/-- The raw score: half the cosine and half the layer score, times the neighbour's weight. -/
def raw (n d l w : EReal) : EReal :=
  (lit 0x3F000000#32 * Ideal.div n (max d (lit 0x358637BD#32)) + lit 0x3F000000#32 * Ideal.logistic l) * w

/-- The raw score over the first neighbour's, plus one. -/
def ratio (u u0 : EReal) : EReal := Ideal.div u (if u0 = 0 then 1 else u0) + 1

/-- The score of a ratio: an infinity replaced by one, then held between two constants. -/
def tame (x : EReal) : EReal :=
  min 1 (max (lit 0x3727C5AC#32) (if (if x = lit 0x7F800000#32 then 1 else x) = lit 0xFF800000#32 then 1
    else if x = lit 0x7F800000#32 then 1 else x))

/-- The score of a neighbour from its raw score and the first neighbour's. -/
def score (u u0 : EReal) : EReal := tame (ratio u u0)

variable (x0 x1 x2 x3 : Vec Ideal S256x32 .f32) (x4 x5 : Vec Ideal S256x1 .f32) (x6 : Vec Ideal S256x32 .i32)

/-- The raw score of a block's neighbour `k` in row `r`. -/
def blockRaw (r : Fin 256) (k : Fin 32) : EReal :=
  raw (x0 (ix2 r k)) (Ideal.sqrt (x4 (ix2 r 0) * x1 (ix2 r k))) (x5 (ix2 r 0) + x2 (ix2 r k)) (x3 (ix2 r k))

/-- The block of ratios, at an element. -/
theorem ratio_apply (r : Fin 256) (k : Fin 32) :
    k0_pay77 x0 x1 x2 x3 x4 x5 x6 (ix2 r k) = ratio (blockRaw x0 x1 x2 x3 x4 x5 r k) (blockRaw x0 x1 x2 x3 x4 x5 r 0) := by
  pointwise [k0_pay77, k0_pay2]
  rfl

/-- The block of scores, at an element. -/
theorem block_apply (r : Fin 256) (k : Fin 32) :
    k0_pay80 x0 x1 x2 x3 x4 x5 x6 (ix2 r k) = score (blockRaw x0 x1 x2 x3 x4 x5 r k) (blockRaw x0 x1 x2 x3 x4 x5 r 0) := by
  unfold score
  rw [← ratio_apply x0 x1 x2 x3 x4 x5 x6 r k]
  have e : k0_pay78 x0 x1 x2 x3 x4 x5 x6
      = cmpf .one (k0_pay77 x0 x1 x2 x3 x4 x5 x6) (k0_pay77 x0 x1 x2 x3 x4 x5 x6) := rfl
  unfold k0_pay80
  rw [e]
  generalize k0_pay77 x0 x1 x2 x3 x4 x5 x6 = v
  pointwise [k0_pay4]
  simp only [ne_eq, not_true_eq_false, if_false]
  rfl

end Cert.Score

end

end
-- ==== Proof.Reference.lean ====
/-
  The reference's scores, read at an element.

  The reference's array of scores is its arrays of `Terms.lean` under the same scalar functions as the kernel's block
  (`scores_apply`).
-/
module

public import proofs.«01_k».proof.Proof.Score
public import proofs.«01_k».proof.Proof.Terms

@[expose] public section

set_option maxRecDepth 16384

noncomputable section

namespace Cert.Reference

open Idealize.ShloMosaic Cert.ReferenceIdeal Cert.ReferenceIdeal.Gen Cert.ReferenceIdeal.Value Cert.Score

/-! ## The arrays from the arguments -/

section
variable {F : FTy → Type} [FloatOps F]

/-- The cosine's denominators: the product of the two lengths. -/
def lengths (a : FVec F S1024 .f32) (b : FVec F S1024x32 .f32) : FVec F S1024x32 .f32 :=
  mulf (broadcastInDim S1024x32 ![0, 1] bcast_S1024x1_S1024x32_0_1 (broadcastInDim S1024x1 ![0] bcast_S1024_S1024x1_0 (Host.sqrt a)))
    (Host.sqrt b)

/-- The layer score's argument: the roots' part plus the neighbours'. -/
def layerArg (a : FVec F S1024x1 .f32) (b : FVec F S1024x32 .f32) : FVec F S1024x32 .f32 :=
  addf (broadcastInDim S1024x32 ![0, 1] bcast_S1024x1_S1024x32_0_1 a) b

/-- The raw scores from the products, the lengths, the layer scores' arguments and the weights. -/
def rawScores (n d l w : FVec F S1024x32 .f32) : FVec F S1024x32 .f32 :=
  mulf (addf
      (mulf (broadcastInDim S1024x32 ![] bcast_S_S1024x32 (constant S_ .f32 0x3F000000#32))
        (Host.divf n (maximumf d (broadcastInDim S1024x32 ![] bcast_S_S1024x32 (constant S_ .f32 0x358637BD#32)))))
      (mulf (broadcastInDim S1024x32 ![] bcast_S_S1024x32 (constant S_ .f32 0x3F000000#32))
        (Host.divf (broadcastInDim S1024x32 ![] bcast_S_S1024x32 (constant S_ .f32 0x3F800000#32))
          (addf (broadcastInDim S1024x32 ![] bcast_S_S1024x32 (constant S_ .f32 0x3F800000#32)) (Host.exp (Host.negf l)))))) w

/-- The reference's raw scores of the arguments. -/
def rawOf (x : FVec F S100000x128 .f32) (bn : IVec S1024 32) (nb : IVec S1024x32 32) (im : FVec F S100000 .f32)
    (w4 w5 : FVec F S128 .f32) (w6 w7 : FVec F S128x1 .f32) : FVec F S1024x32 .f32 :=
  rawScores (Cert.Terms.dots (Cert.Terms.scaledRoots (Cert.Terms.roots x bn) w4) (Cert.Terms.scaledFeats (Cert.Terms.feats x nb) w5))
    (lengths (Cert.Terms.rootSq (Cert.Terms.scaledRoots (Cert.Terms.roots x bn) w4))
      (Cert.Terms.nbrSq (Cert.Terms.scaledFeats (Cert.Terms.feats x nb) w5)))
    (layerArg (Cert.Terms.rootLayer (Cert.Terms.roots x bn) w6) (Cert.Terms.nbrLayer (Cert.Terms.feats x nb) w7))
    (Cert.Terms.weights im nb)

variable (V : Valuation τ sig (Elt F))

/-- The program's raw scores are these. -/
theorem raw_eq : res_main_v41 V = rawOf (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6))
    (V (Proc.devRef .tc main_arg7)) := rfl

end

/-! ## At an element -/

/-- The raw scores at an element. -/
theorem rawScores_apply (n d l w : FVec Ideal S1024x32 .f32) (b : Fin 1024) (k : Fin 32) :
    rawScores n d l w (ix2 b k) = raw (n (ix2 b k)) (d (ix2 b k)) (l (ix2 b k)) (w (ix2 b k)) := by
  pointwise [rawScores]
  rfl

variable (V : Valuation τ sig (Elt Ideal))

/-- The ratios at an element. -/
theorem ratio_apply (b : Fin 1024) (k : Fin 32) :
    res_main_v49 V (ix2 b k) = ratio (res_main_v41 V (ix2 b k)) (res_main_v41 V (ix2 b 0)) := by
  unfold res_main_v49 res_main_v42
  generalize res_main_v41 V = u
  simp only [id_eq]
  pointwise
  rfl

/-- The scores at an element. -/
theorem scores_apply (b : Fin 1024) (k : Fin 32) :
    res_main_v51 V (ix2 b k) = score (res_main_v41 V (ix2 b k)) (res_main_v41 V (ix2 b 0)) := by
  unfold score
  rw [← ratio_apply V b k]
  unfold res_main_v51 res_main_call6_v6 res_main_call6_v2
  generalize res_main_v49 V = v
  simp only [id_eq]
  pointwise
  simp only [ne_eq, not_true_eq_false, if_false]
  rfl

/-- The scores of an array of raw scores. -/
def scoresOf (u : FVec Ideal S1024x32 .f32) : FVec Ideal S1024x32 .f32 := fun i => score (u i) (u (ix2 (i 0) 0))

/-- The reference's scores are these of its raw scores. -/
theorem scores_eq : res_main_v51 V = scoresOf (res_main_v41 V) := by
  funext i
  rw [← ix2_eta i]
  exact scores_apply V _ _

end Cert.Reference

end

end
-- ==== Proof.Equation.lean ====
/-
  The equations between the two programs' raw scores.

  The kernel contracts the neighbours' features with the roots' scaled by both weights, where the reference scales both and
  sums; it takes one square root of a product, where the reference multiplies two. Both are equal over the extended reals.
-/
module

public import proofs.«01_k».proof.Proof.Reference

@[expose] public section

set_option maxRecDepth 16384

noncomputable section

namespace Cert.Equation

open Idealize.ShloMosaic Cert.ReferenceIdeal Cert.ReferenceIdeal.Gen Cert.Terms

/-- The root of a real that is not negative. -/
theorem sqrt_coe {r : ℝ} (h : 0 ≤ r) : Ideal.sqrt (r : EReal) = (Real.sqrt r : EReal) := if_neg (not_lt.mpr h)

/-- The root of a product with an infinity. -/
theorem sqrt_top_mul (b : EReal) (hb : 0 ≤ b) : Ideal.sqrt (⊤ * b) = Ideal.sqrt ⊤ * Ideal.sqrt b := by
  have ht : Ideal.sqrt ⊤ = ⊤ := rfl
  induction b with
  | bot => exact absurd hb (by simp)
  | top => rw [EReal.top_mul_top, ht, EReal.top_mul_top]
  | coe r =>
    have hr : 0 ≤ r := by exact_mod_cast hb
    rcases hr.eq_or_lt with h | h
    · subst h
      rw [sqrt_coe le_rfl, Real.sqrt_zero, EReal.coe_zero, mul_zero, mul_zero, ← EReal.coe_zero, sqrt_coe le_rfl, Real.sqrt_zero]
    · rw [EReal.top_mul_coe_of_pos h, sqrt_coe hr, ht, EReal.top_mul_coe_of_pos (Real.sqrt_pos.mpr h)]

/-- The root of a product of two numbers that are not negative is the product of the roots. -/
theorem sqrt_mul (a b : EReal) (ha : 0 ≤ a) (hb : 0 ≤ b) : Ideal.sqrt (a * b) = Ideal.sqrt a * Ideal.sqrt b := by
  induction a with
  | bot => exact absurd ha (by simp)
  | top => exact sqrt_top_mul b hb
  | coe r =>
    induction b with
    | bot => exact absurd hb (by simp)
    | top => rw [mul_comm, sqrt_top_mul _ ha, mul_comm]
    | coe t =>
      have hr : 0 ≤ r := by exact_mod_cast ha
      have ht : 0 ≤ t := by exact_mod_cast hb
      rw [← EReal.coe_mul, sqrt_coe hr, sqrt_coe ht, sqrt_coe (mul_nonneg hr ht), Real.sqrt_mul hr, EReal.coe_mul]

/-- A square is not negative. -/
theorem sq_nonneg (a : EReal) : 0 ≤ a * a := by
  induction a with
  | bot => rw [EReal.bot_mul_bot]; exact le_top
  | top => rw [EReal.top_mul_top]; exact le_top
  | coe r => rw [← EReal.coe_mul]; exact_mod_cast mul_self_nonneg r

/-- The contraction with the roots scaled by both weights is the sum of the products of the scaled features. -/
theorem dots_eq (xr : FVec Ideal S1024x128 .f32) (xu : FVec Ideal S1024x32x128 .f32) (w4 w5 : FVec Ideal S128 .f32) (b : Fin 1024) (k : Fin 32) :
    Host.dotGeneral (F := Ideal) (φ₁ := .f32) (φ₂ := .f32) Cert.KernelIdeal.dot_S1024x32x128_S1024x128_S1024x32_2_1_1_n_0_0 none xu (scaledRoots xr (mulf w4 w5)) (ix2 b k)
      = dots (scaledRoots xr w4) (scaledFeats xu w5) (ix2 b k) := by
  pointwise [dots, scaledRoots, scaledFeats]
  refine Finset.sum_congr rfl fun f _ => ?_
  simp only [mul_comm, mul_left_comm, mul_assoc]

/-- The squared lengths of the roots are not negative. -/
theorem rootSq_nonneg (h : FVec Ideal S1024x128 .f32) (b : Fin 1024) : 0 ≤ rootSq h (ix1 b) := by
  pointwise [rootSq]
  exact Finset.sum_nonneg fun f _ => sq_nonneg _

/-- The squared lengths of the neighbours are not negative. -/
theorem nbrSq_nonneg (h : FVec Ideal S1024x32x128 .f32) (b : Fin 1024) (k : Fin 32) : 0 ≤ nbrSq h (ix2 b k) := by
  pointwise [nbrSq]
  exact Finset.sum_nonneg fun f _ => sq_nonneg _

/-- The two lengths' product at an element: one root of the product of the squares. -/
theorem lengths_apply (hr : FVec Ideal S1024x128 .f32) (hu : FVec Ideal S1024x32x128 .f32) (b : Fin 1024) (k : Fin 32) :
    Cert.Reference.lengths (rootSq hr) (nbrSq hu) (ix2 b k)
      = Ideal.sqrt (broadcastInDim S1024x1 ![0] bcast_S1024_S1024x1_0 (rootSq hr) (ix2 b 0) * nbrSq hu (ix2 b k)) := by
  have e : broadcastInDim S1024x1 ![0] bcast_S1024_S1024x1_0 (rootSq hr) (ix2 b 0) = rootSq hr (ix1 b) := by
    generalize rootSq hr = a
    pointwise
  rw [e, sqrt_mul _ _ (rootSq_nonneg hr b) (nbrSq_nonneg hu b k)]
  generalize rootSq hr = a
  generalize nbrSq hu = q
  pointwise [Cert.Reference.lengths]

/-- The layer scores' arguments at an element. -/
theorem layerArg_apply (a : FVec Ideal S1024x1 .f32) (q : FVec Ideal S1024x32 .f32) (b : Fin 1024) (k : Fin 32) :
    Cert.Reference.layerArg a q (ix2 b k) = a (ix2 b 0) + q (ix2 b k) := by
  pointwise [Cert.Reference.layerArg]

/-- The kernel's raw score, from its operands, is the reference's. -/
theorem raw_apply (x : FVec Ideal S100000x128 .f32) (bn : IVec S1024 32) (nb : IVec S1024x32 32) (im : FVec Ideal S100000 .f32)
    (w4 w5 : FVec Ideal S128 .f32) (w6 w7 : FVec Ideal S128x1 .f32) (b : Fin 1024) (k : Fin 32) :
    Cert.Score.raw
      (Host.dotGeneral (F := Ideal) (φ₁ := .f32) (φ₂ := .f32) Cert.KernelIdeal.dot_S1024x32x128_S1024x128_S1024x32_2_1_1_n_0_0 none
        (feats x nb) (scaledRoots (roots x bn) (mulf w4 w5)) (ix2 b k))
      (Ideal.sqrt (broadcastInDim S1024x1 ![0] bcast_S1024_S1024x1_0 (rootSq (scaledRoots (roots x bn) w4)) (ix2 b 0)
        * nbrSq (scaledFeats (feats x nb) w5) (ix2 b k)))
      (rootLayer (roots x bn) w6 (ix2 b 0) + nbrLayer (feats x nb) w7 (ix2 b k))
      (weights im nb (ix2 b k))
    = Cert.Reference.rawOf x bn nb im w4 w5 w6 w7 (ix2 b k) := by
  unfold Cert.Reference.rawOf
  rw [Cert.Reference.rawScores_apply, dots_eq, lengths_apply, layerArg_apply]

end Cert.Equation

end

end
-- ==== Proof.Order.lean ====
/-
  Ranks and the stable sort.

  A row of `n` keys is ordered by `precedes`: the greater key first, of equal keys the lesser position first. The
  RANK of a position is how many positions precede it. The position a stable descending sort puts at place `s` is
  the one position of rank `s` (`rank_eq_iff`). This file is pure combinatorics: no array appears.
-/
module

public import Idealize.ShloMosaic.Lib.SortPrefix
public import Mathlib.Data.EReal.Basic

@[expose] public section

noncomputable section

namespace Cert.Order

open Idealize.ShloMosaic

/-- Position `i` comes before position `j`: its key is greater, or the keys are equal and `i` is the lesser position. -/
def precedes {n : Nat} (p : Fin n → EReal) (i j : Fin n) : Bool :=
  decide (p j < p i) || (decide (p i = p j) && decide (i < j))

/-- How many positions come before position `j`. -/
def rank {n : Nat} (p : Fin n → EReal) (j : Fin n) : Nat := (Finset.univ.filter fun i => precedes p i j = true).card

/-- The position a stable sort by descending key puts at place `s`. -/
def sel {n : Nat} (p : Fin n → EReal) (s : Fin n) : Fin n := sortedFrom (fun i j => decide (p j < p i)) s

/-- `precedes` is a strict total order of the positions, whatever the keys. -/
theorem strictTotal_precedes {n : Nat} (p : Fin n → EReal) : StrictTotalBefore (precedes p) := by
  classical
  have h := StrictTotalBefore.of_key_then_position (fun a b : EReal => decide (b < a)) p (fun a => by simp)
    (fun a b c h₁ h₂ => by
      simp only [decide_eq_true_eq] at h₁ h₂ ⊢
      exact lt_trans h₂ h₁)
    (fun a b => by
      simp only [decide_eq_true_eq]
      rcases lt_trichotomy a b with h | h | h
      · exact Or.inr (Or.inr h)
      · exact Or.inr (Or.inl h)
      · exact Or.inl h)
  have e : precedes p = fun i j => decide (p j < p i) || (decide (p i = p j) && decide (i < j)) := rfl
  rw [e]
  convert h using 6

/-- Inserting a position that is lesser than every position of the list: to compare by key alone, or by key and then
    position, is the same. -/
theorem insert_eq {n : Nat} (p : Fin n → EReal) (a : Fin n) (l : List (Fin n)) (h : ∀ b ∈ l, a < b) :
    insertBefore (fun i j => decide (p j < p i)) a l = insertBefore (precedes p) a l := by
  induction l with
  | nil => rfl
  | cons b l ih =>
    have hb : ¬ b < a := lt_asymm (h b (List.mem_cons_self ..))
    have e : precedes p b a = decide (p a < p b) := by simp [precedes, hb]
    unfold insertBefore
    rw [e, ih fun c hc => h c (List.mem_cons_of_mem _ hc)]

/-- The stable sort of an ascending list of positions by key alone is its sort by key and then position. -/
theorem stableSort_eq {n : Nat} (p : Fin n → EReal) (l : List (Fin n)) (h : l.Pairwise (· < ·)) :
    stableSort (fun i j => decide (p j < p i)) l = stableSort (precedes p) l := by
  induction l with
  | nil => rfl
  | cons a l ih =>
    rw [List.pairwise_cons] at h
    unfold stableSort
    rw [ih h.2]
    exact insert_eq p a _ fun b hb => h.1 b ((perm_stableSort _ l).mem_iff.mp hb)

/-- The position at place `s` is the same whether the sort breaks ties by stability or by the position itself. -/
theorem sel_eq {n : Nat} (p : Fin n → EReal) (s : Fin n) : sel p s = sortedFrom (precedes p) s := by
  have h : sortPositions n (fun i j => decide (p j < p i)) = sortPositions n (precedes p) :=
    stableSort_eq p _ (List.pairwise_lt_finRange n)
  unfold sel sortedFrom
  rw [List.get_of_eq h]
  rfl

/-- Of two places, the lesser one's position comes before the greater one's. -/
theorem precedes_sel_iff {n : Nat} (p : Fin n → EReal) (r s : Fin n) : precedes p (sel p r) (sel p s) = true ↔ r < s := by
  have hB := strictTotal_precedes p
  have key : ∀ i j : Fin n, i < j → precedes p (sel p i) (sel p j) = true := fun i j hij => by
    rw [sel_eq, sel_eq]
    have h0 := sortedFrom_noInversion (precedes p) (precedes p) (fun a b h => hB.asymm a b h) (fun _ _ h => h)
      hB.negTrans i j hij
    rcases hB.total (sortedFrom (precedes p) i) (sortedFrom (precedes p) j)
      (fun e => (ne_of_lt hij) (sortedFrom_injective _ e)) with h | h
    · exact h
    · rw [h0] at h
      exact absurd h (by decide)
  refine ⟨fun h => ?_, key r s⟩
  rcases lt_trichotomy r s with h' | h' | h'
  · exact h'
  · subst h'
    rw [hB.irrefl] at h
    exact absurd h (by decide)
  · rw [hB.asymm _ _ (key s r h')] at h
    exact absurd h (by decide)

/-- The position at place `s` has rank `s`. -/
theorem rank_sel {n : Nat} (p : Fin n → EReal) (s : Fin n) : rank p (sel p s) = s.val := by
  have hinj : Function.Injective (sel p) := sortedFrom_injective _
  have e : (Finset.univ.filter fun i => precedes p i (sel p s) = true) = (Finset.Iio s).image (sel p) := by
    ext i
    obtain ⟨r, rfl⟩ : ∃ r, sel p r = i := sortedFrom_surjective _ i
    simp only [Finset.mem_filter, Finset.mem_univ, true_and, Finset.mem_image, Finset.mem_Iio, precedes_sel_iff]
    exact ⟨fun h => ⟨r, h, rfl⟩, fun ⟨r', h, e⟩ => hinj e ▸ h⟩
  unfold rank
  rw [e, Finset.card_image_of_injective _ hinj, Fin.card_Iio]

/-- THE LINK: a position has rank `s` exactly when it is the one at place `s` of the sort. -/
theorem rank_eq_iff {n : Nat} (p : Fin n → EReal) (j s : Fin n) : rank p j = s.val ↔ j = sel p s := by
  obtain ⟨r, rfl⟩ : ∃ r, sel p r = j := sortedFrom_surjective _ j
  rw [rank_sel]
  exact ⟨fun h => congrArg (sel p) (Fin.ext h), fun h => congrArg Fin.val ((sortedFrom_injective _ : Function.Injective (sel p)) h)⟩

/-- Adding a one for every position of a list that satisfies a test, on 32-bit words, counts those positions. -/
theorem foldl_count {ι : Type} (f : ι → Bool) (l : List ι) (w : BitVec 32) :
    l.foldl (fun acc i => acc + if f i then 1#32 else 0#32) w = w + BitVec.ofNat 32 (l.countP f) := by
  induction l generalizing w with
  | nil => simp
  | cons a l ih =>
    rw [List.foldl_cons, ih, List.countP_cons]
    cases f a
    · simp
    · simp only [if_true, BitVec.ofNat_add]
      rw [BitVec.add_assoc, BitVec.add_comm 1#32]

/-- The count over all positions, in order, is the rank. -/
theorem countP_precedes {n : Nat} (p : Fin n → EReal) (j : Fin n) :
    (List.finRange n).countP (fun i => precedes p i j) = rank p j := by
  unfold rank
  rw [List.countP_eq_length_filter, ← List.toFinset_card_of_nodup ((List.nodup_finRange n).filter _)]
  congr 1
  ext i
  simp

/-- Overwriting an accumulator at every position of a list that equals `a` leaves the value at `a`, if `a` is in it. -/
theorem foldl_pick {ι α : Type} [DecidableEq ι] (x : ι → α) (a : ι) (l : List ι) (h : a ∈ l) (w : α) :
    l.foldl (fun acc j => if j = a then x j else acc) w = x a := by
  have none' : ∀ (l : List ι) (w : α), a ∉ l → l.foldl (fun acc j => if j = a then x j else acc) w = w := by
    intro l
    induction l with
    | nil => intro w _; rfl
    | cons b l ih =>
      intro w hb
      rw [List.mem_cons, not_or] at hb
      rw [List.foldl_cons, if_neg (Ne.symm hb.1)]
      exact ih w hb.2
  induction l generalizing w with
  | nil => exact absurd h (List.not_mem_nil)
  | cons b l ih =>
    rw [List.foldl_cons]
    by_cases hl : a ∈ l
    · exact ih hl _
    · have hb : b = a := by
        rcases List.mem_cons.mp h with e | e
        · exact e.symm
        · exact absurd e hl
      rw [if_pos hb, none' l _ hl, hb]

end Cert.Order

end

end
-- ==== Proof.Select.lean ====
/-
  The kernel's selection, as two loops.

  The body compares every column of the score block with one column at a time and counts, for every column, how many
  come before it (`rankV`); then it goes over the columns once more and writes each one at the place its count names
  (`pickV`). The body is unrolled; here each of the two loops is a fold over the list of the 32 columns, and the body's
  stored values are those folds.
-/
module

public import proofs.«01_k».proof.Proof.Gen.KernelIdeal.Frame

@[expose] public section

set_option maxRecDepth 16384

noncomputable section

namespace Cert.Select

open Idealize.ShloMosaic Cert.KernelIdeal Cert.KernelIdeal.Gen

variable {F : FTy → Type} [FloatOps F]

/-- The 32 columns of a block, in order. -/
def cols : List (Fin 32) :=
  [0, 1, 2, 3, 4, 5, 6, 7, 8, 9, 10, 11, 12, 13, 14, 15, 16, 17, 18, 19, 20, 21, 22, 23, 24, 25, 26, 27, 28, 29, 30, 31]

/-- A column of a block is a 256x1 slice of it. -/
theorem slices_col (i : Fin 32) : S256x32.Slices ![0, i.val] S256x1 := by
  revert i
  decide

/-- Where column `i` comes before the others: it is greater, or equal and to the left. -/
def beatsV (p : FVec F S256x32 .f32) (i : Fin 32) : IVec S256x32 1 :=
  ori (cmpf .ogt (broadcastTo S256x32 (extractStridedSlice S256x1 ![0, i.val] p (slices_col i)) broadcasts_S256x1_S256x32) p)
    (andi (cmpf .oeq (broadcastTo S256x32 (extractStridedSlice S256x1 ![0, i.val] p (slices_col i)) broadcasts_S256x1_S256x32) p)
      (broadcastTo S256x32 (cmpi .sgt (iota .tc S1x32 32 [1] iota_S1x32_d1_w32) (broadcast S1x32 (BitVec.ofNat 32 i.val)))
        broadcasts_S1x32_S256x32))

/-- For every column, how many columns come before it. -/
def rankV (p : FVec F S256x32 .f32) : IVec S256x32 32 :=
  cols.foldl (fun acc i => addi acc (extui 32 (beatsV p i) natLt_1_32)) (broadcast S256x32 0#32)

/-- Where the count of column `j` names the place. -/
def hitV (rk : IVec S256x32 32) (j : Fin 32) : IVec S256x16 1 :=
  cmpi .eq (broadcastTo S256x16 (extractStridedSlice S256x1 ![0, j.val] rk (slices_col j)) broadcasts_S256x1_S256x16)
    (broadcastTo S256x16 (iota .tc S1x16 32 [1] iota_S1x16_d1_w32) broadcasts_S1x16_S256x16)

/-- Every column of `x` written at the place its count names, over `z`. -/
def pickV {α : Type} (rk : IVec S256x32 32) (x : S256x32.Idx → α) (z : S256x16.Idx → α) : S256x16.Idx → α :=
  cols.foldl (fun acc j => select (hitV rk j)
    (broadcastTo S256x16 (shapeCast S256x1 (extractStridedSlice S256x1 ![0, j.val] x (slices_col j)) shapeCasts_S256x1_S256x1)
      broadcasts_S256x1_S256x16) acc) z

variable (x0 x1 x2 x3 : Vec F S256x32 .f32) (x4 x5 : Vec F S256x1 .f32) (x6 : Vec F S256x32 .i32)

/-- The counts the body computes are `rankV` of its scores. -/
theorem rank_eq : k0_pay86 x0 x1 x2 x3 x4 x5 x6 = rankV (k0_pay80 x0 x1 x2 x3 x4 x5 x6) := by
  rfl

/-- What the body stores into the block of values: every score at the place its count names. -/
theorem out7_eq : out0_7 x0 x1 x2 x3 x4 x5 x6
    = View.canon [⟨r0_2, pickV (rankV (k0_pay80 x0 x1 x2 x3 x4 x5 x6)) (k0_pay80 x0 x1 x2 x3 x4 x5 x6)
        (broadcast S256x16 (Scalar.ofBits .f32 0x00000000#32 : F .f32))⟩] := by
  rw [← rank_eq]
  rfl

/-- What the body stores into the block of neighbours: every neighbour at the place its count names. -/
theorem out8_eq : out0_8 x0 x1 x2 x3 x4 x5 x6
    = View.canon [⟨r0_2, pickV (rankV (k0_pay80 x0 x1 x2 x3 x4 x5 x6)) (View.ld x6 r0_0 : IVec S256x32 32) (broadcast S256x16 0#32)⟩] := by
  rw [← rank_eq]
  rfl

end Cert.Select

end

end
-- ==== Proof.Pick.lean ====
/-
  The kernel's selection, read at an element.

  At row `r`, the count of column `k` is the rank of its score in the row (`rankV_apply`), so the pass that writes every
  column at the place its count names leaves at place `s` the column a stable descending sort puts there (`pickV_apply`).
-/
module

public import proofs.«01_k».proof.Proof.Order
public import proofs.«01_k».proof.Proof.Select
public import Idealize.ShloMosaic.Lib.Pointwise

@[expose] public section

set_option maxRecDepth 16384

noncomputable section

namespace Cert.Select

open Idealize.ShloMosaic Cert.KernelIdeal Cert.KernelIdeal.Gen Cert.Order

/-- The scores of a row of a block. -/
def row (p : FVec Ideal S256x32 .f32) (r : Fin 256) : Fin 32 → EReal := fun j => p (ix2 r j)

/-- The list of the columns is the list of all of them. -/
theorem cols_eq : cols = List.finRange 32 := by decide

/-- A fold of vector updates, read at an element, is the fold of the updates' elements. -/
theorem foldl_apply {ι J α : Type} (l : List ι) (f : (J → α) → ι → J → α) (g : α → ι → α) (y : J)
    (h : ∀ acc i, f acc i y = g (acc y) i) (z : J → α) : l.foldl f z y = l.foldl g (z y) := by
  induction l generalizing z with
  | nil => rfl
  | cons a l ih => rw [List.foldl_cons, List.foldl_cons, ih, h]

/-- The comparison of two column numbers as 32-bit words. -/
theorem sgt_cols (i k : Fin 32) : IntOp.cmpi .sgt (BitVec.ofNat 32 k.val) (BitVec.ofNat 32 i.val) = BitVec.ofBool (decide (i < k)) := by
  revert i k
  decide +kernel

/-- Column `i` beats column `k` exactly when it precedes it in the row's order. -/
theorem beatsV_apply (p : FVec Ideal S256x32 .f32) (i : Fin 32) (r : Fin 256) (k : Fin 32) :
    beatsV p i (ix2 r k) = BitVec.ofBool (precedes (row p r) i k) := by
  have h := sgt_cols i k
  pointwise [beatsV]
  rw [h]
  unfold precedes row
  generalize decide (p (ix2 r k) < p (ix2 r i)) = a
  generalize decide (p (ix2 r i) = p (ix2 r k)) = b
  generalize decide (i < k) = c
  revert a b c
  decide

/-- The count of column `k` is the rank of its score in the row. -/
theorem rankV_apply (p : FVec Ideal S256x32 .f32) (r : Fin 256) (k : Fin 32) :
    rankV p (ix2 r k) = BitVec.ofNat 32 (rank (row p r) k) := by
  unfold rankV
  rw [foldl_apply cols _ (fun acc i => acc + if precedes (row p r) i k then 1#32 else 0#32) (ix2 r k)
    (fun acc i => ?_) _, foldl_count, cols_eq, countP_precedes]
  · exact BitVec.zero_add _
  · have e : addi acc (extui 32 (beatsV p i) natLt_1_32) (ix2 r k)
        = acc (ix2 r k) + (beatsV p i (ix2 r k)).setWidth 32 := rfl
    rw [e, beatsV_apply]
    cases precedes (row p r) i k <;> rfl

/-- A rank is at most 32. -/
theorem rank_le (f : Fin 32 → EReal) (k : Fin 32) : rank f k ≤ 32 :=
  (Finset.card_le_univ _).trans (by simp)

/-- A place of the 16 as a place of the 32. -/
def place (s : Fin 16) : Fin 32 := ⟨s.val, by omega⟩

/-- The count of column `j` names place `s` exactly when `j` is the column the sort puts there. -/
theorem hitV_apply (p : FVec Ideal S256x32 .f32) (j : Fin 32) (r : Fin 256) (s : Fin 16) :
    hitV (rankV p) j (ix2 r s) = BitVec.ofBool (decide (j = sel (row p r) (place s))) := by
  have e : hitV (rankV p) j (ix2 r s) = IntOp.cmpi .eq (rankV p (ix2 r j)) (BitVec.ofNat 32 s.val) := by
    pointwise [hitV]
  rw [e, rankV_apply]
  have h := rank_eq_iff (row p r) j (place s)
  have hr := rank_le (row p r) j
  have hs : s.val < 16 := s.isLt
  have hw : (BitVec.ofNat 32 (rank (row p r) j) = BitVec.ofNat 32 s.val) ↔ rank (row p r) j = s.val := by
    refine ⟨fun h => ?_, fun h => by rw [h]⟩
    have := congrArg BitVec.toNat h
    simp only [BitVec.toNat_ofNat] at this
    omega
  unfold IntOp.cmpi
  congr 1
  rw [Bool.eq_iff_iff]
  simp only [beq_iff_eq, decide_eq_true_eq]
  exact hw.trans h

/-- What the second pass leaves at place `s` of row `r`: the element of the column the sort puts there. -/
theorem pickV_apply {α : Type} (p : FVec Ideal S256x32 .f32) (x : S256x32.Idx → α) (z : S256x16.Idx → α)
    (r : Fin 256) (s : Fin 16) : pickV (rankV p) x z (ix2 r s) = x (ix2 r (sel (row p r) (place s))) := by
  unfold pickV
  rw [foldl_apply cols _ (fun acc j => if j = sel (row p r) (place s) then x (ix2 r j) else acc) (ix2 r s)
    (fun acc j => ?_) _, foldl_pick (fun j => x (ix2 r j)) _ cols (by rw [cols_eq]; exact List.mem_finRange _)]
  have e : select (hitV (rankV p) j)
      (broadcastTo S256x16 (shapeCast S256x1 (extractStridedSlice S256x1 ![0, j.val] x (slices_col j)) shapeCasts_S256x1_S256x1)
        broadcasts_S256x1_S256x16) acc (ix2 r s)
      = if hitV (rankV p) j (ix2 r s) = 1#1 then x (ix2 r j) else acc (ix2 r s) := by
    pointwise
    rfl
  rw [e, hitV_apply]
  by_cases h : j = sel (row p r) (place s) <;> simp [h]

end Cert.Select

end

end
-- ==== Proof.TopK.lean ====
/-
  The reference's selection, read at an element.

  The reference sorts every row of scores with its column numbers and keeps the first 16 of each. At place `s` of row `b`
  stand the score and the number of the column a stable descending sort puts there (`values_apply`, `indices_apply`), and
  the nodes are read at those numbers (`nodes_apply`).
-/
module

public import proofs.«01_k».proof.Proof.Reference
public import proofs.«01_k».proof.Proof.Pick

@[expose] public section

set_option maxRecDepth 16384

noncomputable section

namespace Cert.TopK

open Idealize.ShloMosaic Cert.ReferenceIdeal Cert.ReferenceIdeal.Gen Cert.ReferenceIdeal.Value Cert.Order Cert.Select

variable (p : FVec Ideal S1024x32 .f32)

/-- The scores of a row. -/
def gRow (b : Fin 1024) : Fin 32 → EReal := fun j => p (ix2 b j)

/-- Moving along the columns keeps the row. -/
theorem along_ix2 (b : Fin 1024) (s j : Fin 32) : (ix2 b s : S1024x32.Idx).along 1 j = ix2 b j := by
  funext a
  match a with
  | ⟨0, _⟩ => rfl
  | ⟨1, _⟩ => rfl

/-- A bit is set exactly when its condition holds. -/
theorem ofBool_beq (c : Bool) : (BitVec.ofBool c == 1#1) = c := by cases c <;> rfl

/-- The sort's comparison of two columns of a row is that of their scores. -/
theorem sorted_eq (b : Fin 1024) (s : Fin 32) :
    sortedFrom (fun k k' : Fin 32 => FloatOps.cmpfTotal .gt (p ((ix2 b s : S1024x32.Idx).along 1 k))
      (p ((ix2 b s : S1024x32.Idx).along 1 k')) == 1#1) s = sel (gRow p b) s := by
  unfold sel
  congr 1
  funext k k'
  rw [along_ix2, along_ix2]
  exact ofBool_beq _

/-- The sorted scores at an element. -/
theorem sort_fst (y : S1024x32.Idx → BitVec 32) (b : Fin 1024) (s : Fin 32) :
    (Host.sort2 S1024x32 1 (fun l r => FloatOps.cmpfTotal .gt l.1 r.1) p y).1 (ix2 b s) = p (ix2 b (sel (gRow p b) s)) := by
  exact (congrArg p (along_ix2 b s _)).trans (congrArg (fun j => p (ix2 b j)) (sorted_eq p b s))

/-- The carried array at an element. -/
theorem sort_snd (y : S1024x32.Idx → BitVec 32) (b : Fin 1024) (s : Fin 32) :
    (Host.sort2 S1024x32 1 (fun l r => FloatOps.cmpfTotal .gt l.1 r.1) p y).2 (ix2 b s) = y (ix2 b (sel (gRow p b) s)) := by
  exact (congrArg y (along_ix2 b s _)).trans (congrArg (fun j => y (ix2 b j)) (sorted_eq p b s))

/-- The kept scores at an element. -/
theorem values_apply (b : Fin 1024) (s : Fin 16) :
    (Host.topK S1024x16 1 (FloatOps.cmpfTotal .gt) p sliceFits_S1024x32_S1024x16).1 (ix2 b s)
      = p (ix2 b (sel (gRow p b) (place s))) := by
  unfold Host.topK
  pointwise
  exact sort_fst p _ b (place s)

/-- The kept column numbers at an element. -/
theorem indices_apply (b : Fin 1024) (s : Fin 16) :
    (Host.topK S1024x16 1 (FloatOps.cmpfTotal .gt) p sliceFits_S1024x32_S1024x16).2 (ix2 b s)
      = BitVec.ofNat 32 (sel (gRow p b) (place s)).val := by
  unfold Host.topK
  pointwise
  exact sort_snd p _ b (place s)

/-! ## The nodes at the kept columns -/

/-- The column numbers as positions: a negative one counts from the end. -/
def colPos (ix : IVec S1024x16 32) : IVec S1024x16x1 32 :=
  shapeCast S1024x16x1 (select (cmpi .slt ix (broadcastInDim S1024x16 ![] bcast_S_S1024x16 (constantI S_ 32 0#32)))
    (addi ix (broadcastInDim S1024x16 ![] bcast_S_S1024x16 (constantI S_ 32 32#32))) ix) shapeCasts_S1024x16_S1024x16x1

/-- Whether a position is a column. -/
def colOk (w : IVec S1024x16x1 32) : IVec S1024x16 1 :=
  Host.reduce IntOp.andi
    (andi (cmpi .sge w (broadcastInDim S1024x16x1 ![] bcast_S_S1024x16x1 (constantI S_ 32 0#32)))
      (cmpi .sle w (broadcastInDim S1024x16x1 ![0, 1, 2] bcast_S1x1x1_S1024x16x1_0_1_2
        (broadcastInDim S1x1x1 ![2] bcast_S1_S1x1x1_2 (constantI S1 32 31#32)))))
    (constantI S_ 1 1#1) reducesTo_S1024x16x1_S1024x16_d2 h_S_

/-- The nodes at the column numbers, a filling value at a position that is no column. -/
def nodesAt (nb : IVec S1024x32 32) (ix : IVec S1024x16 32) : IVec S1024x16 32 :=
  select (colOk (colPos ix)) (Host.gather gather_S1024x32_S1024x16x1_S1024x16_n_1_0_0_1_2_11 nb (colPos ix))
    (broadcastInDim S1024x16 ![] bcast_S_S1024x16 (constantI S_ 32 2147483648#32))

/-- What the column numbers satisfy as words: none is negative, each is at least 0 and at most 31, and each reads back. -/
theorem col_word (j : Fin 32) : IntOp.cmpi .slt (BitVec.ofNat 32 j.val) 0#32 = 0#1 ∧ IntOp.cmpi .sge (BitVec.ofNat 32 j.val) 0#32 = 1#1
    ∧ IntOp.cmpi .sle (BitVec.ofNat 32 j.val) 31#32 = 1#1 ∧ (BitVec.ofNat 32 j.val).toInt.toNat = j.val := by
  revert j
  decide

/-- A column number is its own position. -/
theorem colPos_apply (ix : IVec S1024x16 32) (b : Fin 1024) (s : Fin 16) (j : Fin 32) (h : ix (ix2 b s) = BitVec.ofNat 32 j.val) :
    colPos ix (ix3 b s 0) = BitVec.ofNat 32 j.val := by
  pointwise [colPos]
  rw [h, (col_word j).1]
  rfl

/-- It is a column. -/
theorem colOk_apply (w : IVec S1024x16x1 32) (b : Fin 1024) (s : Fin 16) (j : Fin 32) (h : w (ix3 b s 0) = BitVec.ofNat 32 j.val) :
    colOk w (ix2 b s) = 1#1 := by
  pointwise [colOk]
  rw [show (Finset.univ : Finset (Fin 1)) = {0} from rfl, Finset.fold_singleton, h, (col_word j).2.1, (col_word j).2.2.1]
  rfl

/-- The gather reads the node there. -/
theorem gather_apply (nb : IVec S1024x32 32) (w : IVec S1024x16x1 32) (b : Fin 1024) (s : Fin 16) (j : Fin 32)
    (h : w (ix3 b s 0) = BitVec.ofNat 32 j.val) :
    Host.gather gather_S1024x32_S1024x16x1_S1024x16_n_1_0_0_1_2_11 nb w (ix2 b s) = nb (ix2 b j) := by
  unfold Host.gather
  congr 1
  funext a
  refine Fin.ext ?_
  show GatherDims.start _ (ix2 b s) w a + GatherDims.batchCoord _ (ix2 b s) a + GatherDims.offCoord _ (ix2 b s) a = _
  have hoff : ∀ a, GatherDims.offCoord gather_S1024x32_S1024x16x1_S1024x16_n_1_0_0_1_2_11 (ix2 b s) a = 0 := fun a =>
    GatherDims.offCoord_eq_zero _ _ _ (by revert a; decide)
  rw [hoff a, Nat.add_zero]
  match a with
  | ⟨0, _⟩ =>
    change GatherDims.start gather_S1024x32_S1024x16x1_S1024x16_n_1_0_0_1_2_11 (ix2 b s) w (0 : Fin 2) + GatherDims.batchCoord gather_S1024x32_S1024x16x1_S1024x16_n_1_0_0_1_2_11 (ix2 b s) (0 : Fin 2) = _
    rw [GatherDims.start_batching _ _ _ _ (by decide : (0 : Fin 2) ∈ gather_S1024x32_S1024x16x1_S1024x16_n_1_0_0_1_2_11.operandBatchingDims), Nat.zero_add]
    rfl
  | ⟨1, _⟩ =>
    change GatherDims.start gather_S1024x32_S1024x16x1_S1024x16_n_1_0_0_1_2_11 (ix2 b s) w (1 : Fin 2) + GatherDims.batchCoord gather_S1024x32_S1024x16x1_S1024x16_n_1_0_0_1_2_11 (ix2 b s) (1 : Fin 2) = _
    rw [GatherDims.batchCoord_eq_zero _ _ _ (by decide : (1 : Fin 2) ∉ gather_S1024x32_S1024x16x1_S1024x16_n_1_0_0_1_2_11.operandBatchingDims), Nat.add_zero]
    unfold GatherDims.start
    rw [dif_pos (by decide : (1 : Fin 2) ∈ gather_S1024x32_S1024x16x1_S1024x16_n_1_0_0_1_2_11.startIndexMap)]
    have hsi : ∀ c, GatherDims.siIdx gather_S1024x32_S1024x16x1_S1024x16_n_1_0_0_1_2_11 (ix2 b s) c = ix3 b s 0 := by
      intro c
      funext e
      match e with
      | ⟨0, _⟩ => rfl
      | ⟨1, _⟩ => rfl
      | ⟨2, _⟩ => exact Subsingleton.elim (α := Fin 1) _ _
    rw [hsi, h, (col_word j).2.2.2]
    exact Nat.min_eq_left (Nat.le_of_lt_succ j.isLt)

/-- The nodes at an element: the node at the column the number names. -/
theorem nodesAt_apply (nb : IVec S1024x32 32) (ix : IVec S1024x16 32) (b : Fin 1024) (s : Fin 16) (j : Fin 32)
    (h : ix (ix2 b s) = BitVec.ofNat 32 j.val) : nodesAt nb ix (ix2 b s) = nb (ix2 b j) := by
  have hw := colPos_apply ix b s j h
  have ho := colOk_apply _ b s j hw
  have hg := gather_apply nb _ b s j hw
  unfold nodesAt
  revert ho hg
  generalize colOk (colPos ix) = o
  generalize Host.gather gather_S1024x32_S1024x16x1_S1024x16_n_1_0_0_1_2_11 nb (colPos ix) = g
  intro ho hg
  pointwise
  rw [ho, hg]
  rfl

/-- The kept nodes at an element. -/
theorem nodes_apply (nb : IVec S1024x32 32) (b : Fin 1024) (s : Fin 16) :
    nodesAt nb (Host.topK S1024x16 1 (FloatOps.cmpfTotal .gt) p sliceFits_S1024x32_S1024x16).2 (ix2 b s)
      = nb (ix2 b (sel (gRow p b) (place s))) :=
  nodesAt_apply nb _ b s _ (indices_apply p b s)

end Cert.TopK

end

end
-- ==== Proof.KernelValue.lean ====
/-
  What the launch leaves in its two result arrays.

  A block of scores is the rows of the reference's array of scores, so what the launch selects in a row is what the
  reference selects there, and the blocks fill both arrays (`final_values`, `final_nodes`).
-/
module

public import proofs.«01_k».proof.Proof.Entry
public import proofs.«01_k».proof.Proof.Blocks
public import proofs.«01_k».proof.Proof.Equation
public import proofs.«01_k».proof.Proof.TopK

@[expose] public section

set_option maxRecDepth 16384

noncomputable section

namespace Cert.KernelValue

open Idealize.ShloMosaic Idealize.ShloMosaic.TcCoe Idealize.SL.Sem Cert.KernelIdeal Cert.KernelIdeal.Gen
open Cert.Blocks Cert.Order Cert.Select

variable (m : (ℓ : Loc nD τ sig) → Buf (Elt Ideal) ℓ) (c : Dev nD)

/-- The reference's raw scores of the kernel's arguments. -/
abbrev rawArr : FVec Ideal S1024x32 .f32 :=
  Cert.Reference.rawOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The reference's scores of the kernel's arguments. -/
def scoreArr : FVec Ideal S1024x32 .f32 := Cert.Reference.scoresOf (rawArr m c)

/-- The block of scores at point `t`. -/
abbrev blockScores (t : Fin cfg0.N) : FVec Ideal S256x32 .f32 :=
  k0_pay80 (iblk m c 0 t) (iblk m c 1 t) (iblk m c 2 t) (iblk m c 3 t) (iblk m c 4 t) (iblk m c 5 t) (iblk m c 6 t)

/-- A block's raw scores are the reference's in the block's rows. -/
theorem blockRaw_eq (t : Fin cfg0.N) (r : Fin 256) (k : Fin 32) :
    Cert.Score.blockRaw (iblk m c 0 t) (iblk m c 1 t) (iblk m c 2 t) (iblk m c 3 t) (iblk m c 4 t) (iblk m c 5 t) r k
      = rawArr m c (ix2 (rowOf t r) k) := by
  unfold Cert.Score.blockRaw
  rw [read0, read1, read2, read3, read4, read5, Cert.Entry.V_v15, Cert.Entry.V_v20, Cert.Entry.V_v22, Cert.Entry.V_v25,
    Cert.Entry.V_v10, Cert.Entry.V_v11]
  exact Cert.Equation.raw_apply _ _ _ _ _ _ _ _ _ _

/-- A block's scores are the reference's in the block's rows. -/
theorem blockScores_apply (t : Fin cfg0.N) (r : Fin 256) (k : Fin 32) :
    blockScores m c t (ix2 r k) = scoreArr m c (ix2 (rowOf t r) k) := by
  unfold blockScores
  rw [Cert.Score.block_apply, blockRaw_eq, blockRaw_eq]
  rfl

/-- A block's row of scores is the reference's row. -/
theorem row_eq (t : Fin cfg0.N) (r : Fin 256) : row (blockScores m c t) r = Cert.TopK.gRow (scoreArr m c) (rowOf t r) :=
  funext fun k => blockScores_apply m c t r k

/-- The offsets of a whole block. -/
theorem zeros2 : (![0, 0] : Fin 2 → Nat) = fun _ => 0 := funext fun a => by fin_cases a <;> rfl

/-- The scores the reference keeps. -/
abbrev values : FVec Ideal S1024x16 .f32 :=
  (Host.topK S1024x16 1 (FloatOps.cmpfTotal .gt) (scoreArr m c) Cert.ReferenceIdeal.Gen.sliceFits_S1024x32_S1024x16).1

/-- The nodes the reference keeps. -/
abbrev nodes : IVec S1024x16 32 :=
  Cert.TopK.nodesAt (m ((c.tc : Thread nD τ).loc main_arg2))
    (Host.topK S1024x16 1 (FloatOps.cmpfTotal .gt) (scoreArr m c) Cert.ReferenceIdeal.Gen.sliceFits_S1024x32_S1024x16).2

/-- What point `t` leaves in the first result's block. -/
theorem after_values (t : Fin cfg0.N) (r : Fin 256) (s : Fin 16) :
    (dats m 0 c).after 7 t (ix2 r s) = values m c (ix2 (rowOf t r) s) := by
  rw [after0_7, out7_eq, View.canon_unit_zero zeros2, pickV_apply]
  show blockScores m c t (ix2 r (sel (row (blockScores m c t) r) (place s))) = _
  rw [blockScores_apply, row_eq]
  exact (Cert.TopK.values_apply (scoreArr m c) (rowOf t r) s).symm

/-- What point `t` leaves in the second result's block. -/
theorem after_nodes (t : Fin cfg0.N) (r : Fin 256) (s : Fin 16) :
    (dats m 0 c).after 8 t (ix2 r s) = nodes m c (ix2 (rowOf t r) s) := by
  rw [after0_8, out8_eq, View.canon_unit_zero zeros2, View.ld_unit_zero zeros2, pickV_apply, read6, row_eq]
  exact (Cert.TopK.nodes_apply (scoreArr m c) _ (rowOf t r) s).symm

/-- The first result's array ends holding the kept scores. -/
theorem final_values : (dats m 0 c).arrAt 7 cfg0.N = values m c := by
  refine (dats m 0 c).arrAt_eq_of_covers 7 _ (by decide +kernel) fun t hf y => ?_
  obtain ⟨r, s, rfl⟩ : ∃ (r : Fin 256) (s : Fin 16), y = ix2 r s := ⟨y 0, y 1, (ix2_eta y).symm⟩
  exact (after_values m c t r s).trans (congrArg (values m c) (emb7 t r s).symm)

/-- The second result's array ends holding the kept nodes. -/
theorem final_nodes : (dats m 0 c).arrAt 8 cfg0.N = nodes m c := by
  refine (dats m 0 c).arrAt_eq_of_covers 8 _ (by decide +kernel) fun t hf y => ?_
  obtain ⟨r, s, rfl⟩ : ∃ (r : Fin 256) (s : Fin 16), y = ix2 r s := ⟨y 0, y 1, (ix2_eta y).symm⟩
  exact (after_nodes m c t r s).trans (congrArg (nodes m c) (emb8 t r s).symm)

end Cert.KernelValue

end

end
-- ==== Proof.KernelRun.lean ====
/-
  The kernel's run, read at its results.

  After the launch the host adds the kept scores at the kept nodes (`tail_sum`). So the kernel ends with the kept scores,
  the kept nodes and that sum, its arguments as launched (`run`).
-/
module

public import proofs.«01_k».proof.Proof.KernelValue

@[expose] public section

set_option maxRecDepth 16384

noncomputable section

namespace Cert.KernelRun

open Idealize.ShloMosaic Idealize.ShloMosaic.TcCoe Idealize.SL.Sem Cert.KernelIdeal Cert.KernelIdeal.Gen
open Cert.KernelValue

section

variable {F : FTy → Type} [FloatOps F]

/-- The host's lines after the launch leave the sum over the nodes of the launch's two results. -/
theorem tail_sum (W : Valuation τ sig (Elt F)) : StableHlo.after hostOps1 W (Proc.devRef .tc main_v36)
    = Cert.Terms.gathered (W (Proc.devRef .tc main_v26_0)) (W (Proc.devRef .tc main_v26_1)) := by
  unfold hostOps1
  after_reads_simp
  rfl

end

variable (m : (ℓ : Loc nD τ sig) → Buf (Elt Ideal) ℓ) (ρ : Dev nD → PrngReg)

/-- No two windows stage one array. -/
theorem arrays_distinct : Function.Injective (Pipeline.arrRef spec0) := by decide

/-- The sum over the nodes ends being that of the kept scores at the kept nodes. -/
theorem final_sum (c : Dev nD) : Pipeline.afterTail₀ cfgs (dats m) 0 (V0 m) [hostOps1] c main_v36
    = Cert.Terms.gathered (values m c) (nodes m c) := by
  unfold Pipeline.afterTail₀
  refine (tail_sum _).trans (congrArg₂ Cert.Terms.gathered ?_ ?_)
  · exact (Pipeline.withArrays_arr spec0 arrays_distinct c (V0 m c) (fun w => (dats m 0 c).arrAt w cfg0.N) 7).trans (final_values m c)
  · exact (Pipeline.withArrays_arr spec0 arrays_distinct c (V0 m c) (fun w => (dats m 0 c).arrAt w cfg0.N) 8).trans (final_nodes m c)

/-- The kernel ends with the kept scores, the kept nodes and the sum over the nodes. -/
theorem results : θ_run defs (onTc (τ := τ) (main (F := Ideal))) ⟨m, fun _ => 0, ρ⟩ (fun r => ∀ c : Dev nD,
    r.2.mem ((c.tc : Thread nD τ).loc main_v26_0) = values m c
    ∧ r.2.mem ((c.tc : Thread nD τ).loc main_v26_1) = nodes m c
    ∧ r.2.mem ((c.tc : Thread nD τ).loc main_v36) = Cert.Terms.gathered (values m c) (nodes m c)) :=
  (θ_run defs _ _).mono (fun _ h c => ⟨((h c).1 7).trans (final_values m c), ((h c).1 8).trans (final_nodes m c),
    ((h c).2 main_v36 (Pipeline.mem_restRefs_of main_v36 (by decide) (by decide))).trans (final_sum m c)⟩) (run_main m ρ)

/-- The kernel's results with its arguments as launched. -/
theorem run : θ_run defs (onTc (τ := τ) (main (F := Ideal))) ⟨m, fun _ => 0, ρ⟩ (fun r => ∀ c : Dev nD,
    r.2.mem ((c.tc : Thread nD τ).loc main_v26_0) = values m c
    ∧ r.2.mem ((c.tc : Thread nD τ).loc main_v26_1) = nodes m c
    ∧ r.2.mem ((c.tc : Thread nD τ).loc main_v36) = Cert.Terms.gathered (values m c) (nodes m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨(h.1 c).1, (h.1 c).2.1, (h.1 c).2.2, h.2 c⟩) (θ_run_and (results m ρ) (unchanged m ρ))

end Cert.KernelRun

end

end
-- ==== Proof.ReferenceRun.lean ====
/-
  The reference's run, read at its results.

  The reference keeps the first 16 of every row of its sorted scores, reads the nodes at the kept columns and adds the kept
  scores at those nodes. `run` states all three of the scores of its arguments.
-/
module

public import proofs.«01_k».proof.Proof.TopK

@[expose] public section

set_option maxRecDepth 16384

noncomputable section

namespace Cert.ReferenceRun

open Idealize.ShloMosaic Idealize.ShloMosaic.TcCoe Idealize.SL.Sem Cert.ReferenceIdeal Cert.ReferenceIdeal.Gen

/-- The kept scores of an array of scores. -/
abbrev keep (p : FVec Ideal S1024x32 .f32) : FVec Ideal S1024x16 .f32 :=
  (Host.topK S1024x16 1 (FloatOps.cmpfTotal .gt) p sliceFits_S1024x32_S1024x16).1

/-- The nodes at the columns kept of an array of scores. -/
abbrev keepNodes (nb : IVec S1024x32 32) (p : FVec Ideal S1024x32 .f32) : IVec S1024x16 32 :=
  Cert.TopK.nodesAt nb (Host.topK S1024x16 1 (FloatOps.cmpfTotal .gt) p sliceFits_S1024x32_S1024x16).2

variable (m : (ℓ : Loc nD τ sig) → Buf (Elt Ideal) ℓ) (ρ : Dev nD → PrngReg) (c : Dev nD)

/-- The scores of the reference's arguments. -/
abbrev scoreArr : FVec Ideal S1024x32 .f32 :=
  Cert.Reference.scoresOf (Cert.Reference.rawOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)))

/-- The reference computes the scores of its arguments. -/
theorem scores_eq : Value.res_main_v51 (StableHlo.launchContents m c) = scoreArr m c :=
  (Cert.Reference.scores_eq _).trans (congrArg Cert.Reference.scoresOf (Cert.Reference.raw_eq _))

/-- The reference ends with the kept scores, their nodes and the sum over the nodes, its arguments as launched. -/
theorem run : θ_run defs (onTc (τ := τ) (main (F := Ideal))) ⟨m, fun _ => 0, ρ⟩ (fun r => ∀ c : Dev nD,
    r.2.mem ((c.tc : Thread nD τ).loc main_values) = keep (scoreArr m c)
    ∧ r.2.mem ((c.tc : Thread nD τ).loc main_v52) = keepNodes (m ((c.tc : Thread nD τ).loc main_arg2)) (scoreArr m c)
    ∧ r.2.mem ((c.tc : Thread nD τ).loc main_v62)
        = Cert.Terms.gathered (keep (scoreArr m c)) (keepNodes (m ((c.tc : Thread nD τ).loc main_arg2)) (scoreArr m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨(h c).1.trans (congrArg keep (scores_eq m c)),
    (h c).2.1.trans (congrArg (keepNodes (m ((c.tc : Thread nD τ).loc main_arg2))) (scores_eq m c)),
    (h c).2.2.1.trans (congrArg (fun p => Cert.Terms.gathered (keep p) (keepNodes (m ((c.tc : Thread nD τ).loc main_arg2)) p)) (scores_eq m c)),
    (h c).2.2.2⟩) (Value.run m ρ)

end Cert.ReferenceRun

end

end
-- ==== Proof.lean ====
/-
  The proof of `Cert.Claim`.

  The three programs run and leave their arguments unchanged and every counter at zero. Kernel and reference keep the same
  scores and nodes and add them up alike: the kernel's run (`KernelRun.lean`) and the reference's (`ReferenceRun.lean`) name
  the same arrays of the shared arguments.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The kernel runs and leaves its arguments unchanged and every counter at zero. -/
theorem kernel_frame : Cert.quiescent_Kernel (hKernel := Cert.Kernel.Gen.facts) :=
  fun m ρ _ => Cert.Kernel.Gen.frame m ρ

/-- So does the kernel over the extended reals. -/
theorem kernelIdeal_frame : Cert.quiescent_KernelIdeal (hKernelIdeal := Cert.KernelIdeal.Gen.facts) :=
  fun m ρ _ => Cert.KernelIdeal.Gen.frame m ρ

/-- So does the reference, which has no counters. -/
theorem referenceIdeal_frame : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩) (Cert.ReferenceRun.run m ρ)

/-- The ideal kernel is the kernel's own text over the extended reals: nothing was rewritten. -/
theorem preserved : Cert.preserves_Kernel_KernelIdeal := trivial

/-- The scores of two memories that agree on the arguments are the same. -/
theorem scores_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceRun.scoreArr m' c = Cert.KernelValue.scoreArr m c := by
  obtain ⟨h0, h1, h2, h3, h4, h5, h6, h7⟩ := h
  unfold Cert.ReferenceRun.scoreArr
  rw [h0, h1, h2, h3, h4, h5, h6, h7]
  rfl

/-- Kernel and reference compute the same three results of the same arguments. -/
theorem equal_results : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelValue.values m c, fun c => Cert.KernelValue.nodes m c,
    fun c => Cert.Terms.gathered (Cert.KernelValue.values m c) (Cert.KernelValue.nodes m c), Cert.KernelRun.run m ρ, ?_⟩
  refine (θ_run Cert.ReferenceIdeal.defs _ _).mono (fun _ h c => ?_) (Cert.ReferenceRun.run m' ρ')
  have hs := scores_agree c (hagree c)
  have hn := congrArg₂ Cert.ReferenceRun.keepNodes (hagree c).2.2.1 hs
  exact ⟨(h c).1.trans (congrArg Cert.ReferenceRun.keep hs), (h c).2.1.trans hn,
    (h c).2.2.1.trans (congrArg₂ Cert.Terms.gathered (congrArg Cert.ReferenceRun.keep hs) hn), (h c).2.2.2⟩

/-- Everything that is claimed. -/
theorem claim : Cert.Claim := ⟨Cert.Kernel.Gen.facts, Cert.KernelIdeal.Gen.facts, Cert.ReferenceIdeal.Gen.facts,
  kernel_frame, kernelIdeal_frame, referenceIdeal_frame, preserved, equal_results⟩

end Cert.Proof

end
